-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gamma [hPre_finite_gamma : Cert.Pre_finite_gamma.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gamma.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gamma [hPre_finite_gamma : Cert.Pre_finite_gamma.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gamma.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_gamma [hKernelIdeal : Cert.KernelIdeal.Facts] [hPre_finite_gamma : Cert.Pre_finite_gamma.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gamma m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_gamma [hReferenceIdeal : Cert.ReferenceIdeal.Facts] [hPre_finite_gamma : Cert.Pre_finite_gamma.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gamma m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "inv_nm1" .f32 0x36000010#32 ((524287⁻¹ : ℝ) : EReal)

def algebraic_KernelIdeal_ReferenceIdeal_pre_finite_gamma [hKernelIdeal : Cert.KernelIdeal.Facts] [hReferenceIdeal : Cert.ReferenceIdeal.Facts] [hPre_finite_gamma : Cert.Pre_finite_gamma.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gamma m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_gamma : Cert.Pre_finite_gamma.Facts),
    quiescent_Kernel (hKernel := hKernel)
    ∧ quiescent_KernelIdeal (hKernelIdeal := hKernelIdeal)
    ∧ quiescent_KernelIdeal_pre_finite_gamma (hKernelIdeal := hKernelIdeal) (hPre_finite_gamma := hPre_finite_gamma)
    ∧ quiescent_ReferenceIdeal (hReferenceIdeal := hReferenceIdeal)
    ∧ quiescent_ReferenceIdeal_pre_finite_gamma (hReferenceIdeal := hReferenceIdeal) (hPre_finite_gamma := hPre_finite_gamma)
    ∧ preserves_Kernel_KernelIdeal
    ∧ algebraic_KernelIdeal_ReferenceIdeal_pre_finite_gamma (hKernelIdeal := hKernelIdeal) (hReferenceIdeal := hReferenceIdeal) (hPre_finite_gamma := hPre_finite_gamma)
-- ==== Pre_finite_gamma.lean ====
abbrev S32x64x128x128 : Shape := ⟨4, ![32, 64, 128, 128]⟩
abbrev S64x2x2 : Shape := ⟨3, ![64, 2, 2]⟩
abbrev S64x2 : Shape := ⟨2, ![64, 2]⟩
abbrev S_ : Shape := ⟨0, ![]⟩

class Facts : Prop where
  bcast_S_S64x2x2 : S_.BroadcastsInDim S64x2x2 (![] : Fin 0 → Fin S64x2x2.rank)
  reducesTo_S64x2x2_S_d0_1_2 : S64x2x2.ReducesTo [0, 1, 2] S_
  h_S_ : 0 < S_.numel

variable [Facts]

def fn {F : FTy → Type} [FloatOps F] (main_arg0 : FVec F S32x64x128x128 .f32) (main_arg1 : FVec F S32x64x128x128 .f32) (main_arg2 : FVec F S64x2x2 .f32) (main_arg3 : FVec F S64x2 .f32) : IVec S_ 1 :=
  let main_v0 : FVec F S64x2x2 .f32 := Host.absf main_arg2
  let main_cst : FVec F S_ .f32 := constant S_ .f32 0x7F800000#32
  let main_v1 : FVec F S64x2x2 .f32 := broadcastInDim S64x2x2 ![] bcast_S_S64x2x2 main_cst
  let main_v2 : IVec S64x2x2 1 := cmpf .olt main_v0 main_v1
  let main_c : IVec S_ 1 := constantI S_ 1 1#1
  let main_v3 : IVec S_ 1 := (fun x v => Host.reduce IntOp.andi x v reducesTo_S64x2x2_S_d0_1_2 h_S_) main_v2 main_c
  main_v3
-- ==== Kernel.lean ====
abbrev S32x64x128x128 : Shape := ⟨4, ![32, 64, 128, 128]⟩
abbrev S64x2x2 : Shape := ⟨3, ![64, 2, 2]⟩
abbrev S64x2 : Shape := ⟨2, ![64, 2]⟩
abbrev S16x64x128 : Shape := ⟨3, ![16, 64, 128]⟩
abbrev S2x64x128x128 : Shape := ⟨4, ![2, 64, 128, 128]⟩
abbrev S1x64x128 : Shape := ⟨3, ![1, 64, 128]⟩
abbrev S2x64x128 : Shape := ⟨3, ![2, 64, 128]⟩
abbrev S64x128 : Shape := ⟨2, ![64, 128]⟩
abbrev S64 : Shape := ⟨1, ![64]⟩
abbrev S64x1 : Shape := ⟨2, ![64, 1]⟩
abbrev S64x123 : Shape := ⟨2, ![64, 123]⟩
abbrev S64x4 : Shape := ⟨2, ![64, 4]⟩
abbrev S64x6 : Shape := ⟨2, ![64, 6]⟩
abbrev S_ : Shape := ⟨0, ![]⟩
abbrev S32x64x256x128 : Shape := ⟨4, ![32, 64, 256, 128]⟩
abbrev S1x64x128x128 : Shape := ⟨4, ![1, 64, 128, 128]⟩
abbrev S1x64x256x128 : Shape := ⟨4, ![1, 64, 256, 128]⟩
abbrev S64x128x128 : Shape := ⟨3, ![64, 128, 128]⟩
abbrev S64x1x1 : Shape := ⟨3, ![64, 1, 1]⟩
abbrev S64x16x8x128 : Shape := ⟨4, ![64, 16, 8, 128]⟩
abbrev S64x16x8x128x1 : Shape := ⟨5, ![64, 16, 8, 128, 1]⟩
abbrev S64x16x1x8x128 : Shape := ⟨5, ![64, 16, 1, 8, 128]⟩
abbrev S64x16x2x8x128 : Shape := ⟨5, ![64, 16, 2, 8, 128]⟩
abbrev S32x64x128x2x128 : Shape := ⟨5, ![32, 64, 128, 2, 128]⟩
abbrev S32x64x128x128x2 : Shape := ⟨5, ![32, 64, 128, 128, 2]⟩

abbrev nBuf : Space → Nat
  | .hbm => 13
  | .vmem => 14
  | .smem => 0
  | _ => 0

abbrev bufTy : (tb : Table) → Fin (tcTables nBuf tb) → BufTy
  | .hbm, ⟨0, _⟩ => ⟨S32x64x128x128, .f32⟩
  | .hbm, ⟨1, _⟩ => ⟨S32x64x128x128, .f32⟩
  | .hbm, ⟨2, _⟩ => ⟨S64x2x2, .f32⟩
  | .hbm, ⟨3, _⟩ => ⟨S64x2, .f32⟩
  | .hbm, ⟨4, _⟩ => ⟨S16x64x128, .f32⟩
  | .hbm, ⟨5, _⟩ => ⟨S64x4, .f32⟩
  | .hbm, ⟨6, _⟩ => ⟨S64x6, .f32⟩
  | .hbm, ⟨7, _⟩ => ⟨S_, .i32⟩
  | .hbm, ⟨8, _⟩ => ⟨S_, .f32⟩
  | .hbm, ⟨9, _⟩ => ⟨S64x128, .f32⟩
  | .hbm, ⟨10, _⟩ => ⟨S32x64x256x128, .f32⟩
  | .hbm, ⟨11, _⟩ => ⟨S32x64x128x2x128, .f32⟩
  | .hbm, ⟨12, _⟩ => ⟨S32x64x128x128x2, .f32⟩
  | .local _ .vmem, ⟨0, _⟩ => ⟨S2x64x128x128, .f32⟩
  | .local _ .vmem, ⟨1, _⟩ => ⟨S2x64x128x128, .f32⟩
  | .local _ .vmem, ⟨2, _⟩ => ⟨S2x64x128x128, .f32⟩
  | .local _ .vmem, ⟨3, _⟩ => ⟨S2x64x128x128, .f32⟩
  | .local _ .vmem, ⟨4, _⟩ => ⟨S1x64x128, .f32⟩
  | .local _ .vmem, ⟨5, _⟩ => ⟨S1x64x128, .f32⟩
  | .local _ .vmem, ⟨6, _⟩ => ⟨S1x64x128x128, .f32⟩
  | .local _ .vmem, ⟨7, _⟩ => ⟨S1x64x128x128, .f32⟩
  | .local _ .vmem, ⟨8, _⟩ => ⟨S1x64x128x128, .f32⟩
  | .local _ .vmem, ⟨9, _⟩ => ⟨S1x64x128x128, .f32⟩
  | .local _ .vmem, ⟨10, _⟩ => ⟨S16x64x128, .f32⟩
  | .local _ .vmem, ⟨11, _⟩ => ⟨S64x128, .f32⟩
  | .local _ .vmem, ⟨12, _⟩ => ⟨S1x64x256x128, .f32⟩
  | .local _ .vmem, ⟨13, _⟩ => ⟨S1x64x256x128, .f32⟩
  | _, _ => ⟨S32x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x64x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x64x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x64x128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x64x128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x64x256x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== KernelIdeal.lean ====
variable {F : FTy → Type} [FloatOps F] [Named F]
def κ : String → Option EReal := fun
  | "inv_nm1" => some ((524287⁻¹ : ℝ) : EReal)
  | _ => none
-- ==== ReferenceIdeal.lean ====
abbrev S32x64x128x128 : Shape := ⟨4, ![32, 64, 128, 128]⟩
abbrev S64x2x2 : Shape := ⟨3, ![64, 2, 2]⟩
abbrev S64x2 : Shape := ⟨2, ![64, 2]⟩
abbrev S64x32x128x128 : Shape := ⟨4, ![64, 32, 128, 128]⟩
abbrev S64x524288 : Shape := ⟨2, ![64, 524288]⟩
abbrev S64x1x524288 : Shape := ⟨3, ![64, 1, 524288]⟩
abbrev S64x2x524288 : Shape := ⟨3, ![64, 2, 524288]⟩
abbrev S_ : Shape := ⟨0, ![]⟩
abbrev S64x2x1 : Shape := ⟨3, ![64, 2, 1]⟩
abbrev S64x1x1 : Shape := ⟨3, ![64, 1, 1]⟩
abbrev S64 : Shape := ⟨1, ![64]⟩
abbrev S64x1 : Shape := ⟨2, ![64, 1]⟩
abbrev S64x1x2 : Shape := ⟨3, ![64, 1, 2]⟩
abbrev S64x2x32x128x128 : Shape := ⟨5, ![64, 2, 32, 128, 128]⟩
abbrev S32x64x128x128x2 : Shape := ⟨5, ![32, 64, 128, 128, 2]⟩

abbrev nBuf : Space → Nat
  | .hbm => 102
  | .vmem => 0
  | .smem => 0
  | _ => 0

abbrev bufTy : (tb : Table) → Fin (tcTables nBuf tb) → BufTy
  | .hbm, ⟨0, _⟩ => ⟨S32x64x128x128, .f32⟩
  | .hbm, ⟨1, _⟩ => ⟨S32x64x128x128, .f32⟩
  | .hbm, ⟨2, _⟩ => ⟨S64x2x2, .f32⟩
  | .hbm, ⟨3, _⟩ => ⟨S64x2, .f32⟩
  | .hbm, ⟨4, _⟩ => ⟨S64x32x128x128, .f32⟩
  | .hbm, ⟨5, _⟩ => ⟨S64x524288, .f32⟩
  | .hbm, ⟨6, _⟩ => ⟨S64x32x128x128, .f32⟩
  | .hbm, ⟨7, _⟩ => ⟨S64x524288, .f32⟩
  | .hbm, ⟨8, _⟩ => ⟨S64x1x524288, .f32⟩
  | .hbm, ⟨9, _⟩ => ⟨S64x1x524288, .f32⟩
  | .hbm, ⟨10, _⟩ => ⟨S64x2x524288, .f32⟩
  | .hbm, ⟨11, _⟩ => ⟨S_, .f32⟩
  | .hbm, ⟨12, _⟩ => ⟨S64x2, .f32⟩
  | .hbm, ⟨13, _⟩ => ⟨S_, .f32⟩
  | .hbm, ⟨14, _⟩ => ⟨S64x2, .f32⟩
  | .hbm, ⟨15, _⟩ => ⟨S64x2, .f32⟩
  | .hbm, ⟨16, _⟩ => ⟨S64x2x1, .f32⟩
  | .hbm, ⟨17, _⟩ => ⟨S64x2x524288, .f32⟩
  | .hbm, ⟨18, _⟩ => ⟨S64x2x524288, .f32⟩
  | .hbm, ⟨19, _⟩ => ⟨S64x2x2, .f32⟩
  | .hbm, ⟨20, _⟩ => ⟨S_, .f32⟩
  | .hbm, ⟨21, _⟩ => ⟨S64x2x2, .f32⟩
  | .hbm, ⟨22, _⟩ => ⟨S64x2x2, .f32⟩
  | .hbm, ⟨23, _⟩ => ⟨S64x1x1, .f32⟩
  | .hbm, ⟨24, _⟩ => ⟨S64, .f32⟩
  | .hbm, ⟨25, _⟩ => ⟨S64x1x1, .f32⟩
  | .hbm, ⟨26, _⟩ => ⟨S64, .f32⟩
  | .hbm, ⟨27, _⟩ => ⟨S64x1x1, .f32⟩
  | .hbm, ⟨28, _⟩ => ⟨S64, .f32⟩
  | .hbm, ⟨29, _⟩ => ⟨S64, .f32⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S64, .f32⟩
  | .hbm, ⟨34, _⟩ => ⟨S64, .f32⟩
  | .hbm, ⟨35, _⟩ => ⟨S_, .f32⟩
  | .hbm, ⟨36, _⟩ => ⟨S64, .f32⟩
  | .hbm, ⟨37, _⟩ => ⟨S64, .f32⟩
  | .hbm, ⟨38, _⟩ => ⟨S64, .f32⟩
  | .hbm, ⟨39, _⟩ => ⟨S_, .f32⟩
  | .hbm, ⟨40, _⟩ => ⟨S64, .f32⟩
  | .hbm, ⟨41, _⟩ => ⟨S64, .i1⟩
  | .hbm, ⟨42, _⟩ => ⟨S_, .f32⟩
  | .hbm, ⟨43, _⟩ => ⟨S64, .f32⟩
  | .hbm, ⟨44, _⟩ => ⟨S64, .i1⟩
  | .hbm, ⟨45, _⟩ => ⟨S64, .f32⟩
  | .hbm, ⟨46, _⟩ => ⟨S_, .f32⟩
  | .hbm, ⟨47, _⟩ => ⟨S64, .f32⟩
  | .hbm, ⟨48, _⟩ => ⟨S64, .f32⟩
  | .hbm, ⟨49, _⟩ => ⟨S64, .f32⟩
  | .hbm, ⟨50, _⟩ => ⟨S_, .f32⟩
  | .hbm, ⟨51, _⟩ => ⟨S64, .f32⟩
  | .hbm, ⟨52, _⟩ => ⟨S64, .f32⟩
  | .hbm, ⟨53, _⟩ => ⟨S64, .f32⟩
  | .hbm, ⟨54, _⟩ => ⟨S_, .f32⟩
  | .hbm, ⟨55, _⟩ => ⟨S_, .f32⟩
  | .hbm, ⟨56, _⟩ => ⟨S64, .f32⟩
  | .hbm, ⟨57, _⟩ => ⟨S64, .f32⟩
  | .hbm, ⟨58, _⟩ => ⟨S64, .f32⟩
  | .hbm, ⟨59, _⟩ => ⟨S_, .f32⟩
  | .hbm, ⟨60, _⟩ => ⟨S64, .f32⟩
  | .hbm, ⟨61, _⟩ => ⟨S64, .f32⟩
  | .hbm, ⟨62, _⟩ => ⟨S64, .f32⟩
  | .hbm, ⟨63, _⟩ => ⟨S_, .f32⟩
  | .hbm, ⟨64, _⟩ => ⟨S64, .f32⟩
  | .hbm, ⟨65, _⟩ => ⟨S64, .f32⟩
  | .hbm, ⟨66, _⟩ => ⟨S64, .f32⟩
  | .hbm, ⟨67, _⟩ => ⟨S64, .f32⟩
  | .hbm, ⟨68, _⟩ => ⟨S64, .f32⟩
  | .hbm, ⟨69, _⟩ => ⟨S64, .f32⟩
  | .hbm, ⟨70, _⟩ => ⟨S64, .f32⟩
  | .hbm, ⟨71, _⟩ => ⟨S64x1, .f32⟩
  | .hbm, ⟨72, _⟩ => ⟨S64x1, .f32⟩
  | .hbm, ⟨73, _⟩ => ⟨S64x2, .f32⟩
  | .hbm, ⟨74, _⟩ => ⟨S64x1, .f32⟩
  | .hbm, ⟨75, _⟩ => ⟨S64x1, .f32⟩
  | .hbm, ⟨76, _⟩ => ⟨S64x2, .f32⟩
  | .hbm, ⟨77, _⟩ => ⟨S64, .f32⟩
  | .hbm, ⟨78, _⟩ => ⟨S64x1, .f32⟩
  | .hbm, ⟨79, _⟩ => ⟨S64x1, .f32⟩
  | .hbm, ⟨80, _⟩ => ⟨S64x2, .f32⟩
  | .hbm, ⟨81, _⟩ => ⟨S64x1x2, .f32⟩
  | .hbm, ⟨82, _⟩ => ⟨S64x1x2, .f32⟩
  | .hbm, ⟨83, _⟩ => ⟨S64x2x2, .f32⟩
  | .hbm, ⟨84, _⟩ => ⟨S_, .f32⟩
  | .hbm, ⟨85, _⟩ => ⟨S64x2, .f32⟩
  | .hbm, ⟨86, _⟩ => ⟨S64x2, .f32⟩
  | .hbm, ⟨87, _⟩ => ⟨S64x2, .f32⟩
  | .hbm, ⟨88, _⟩ => ⟨S_, .f32⟩
  | .hbm, ⟨89, _⟩ => ⟨S64x2, .f32⟩
  | .hbm, ⟨90, _⟩ => ⟨S64x2, .f32⟩
  | .hbm, ⟨91, _⟩ => ⟨S64x1x2, .f32⟩
  | .hbm, ⟨92, _⟩ => ⟨S64x2x2, .f32⟩
  | .hbm, ⟨93, _⟩ => ⟨S64x2x2, .f32⟩
  | .hbm, ⟨94, _⟩ => ⟨S64x2x2, .f32⟩
  | .hbm, ⟨95, _⟩ => ⟨S64x2x524288, .f32⟩
  | .hbm, ⟨96, _⟩ => ⟨S64x2x524288, .f32⟩
  | .hbm, ⟨97, _⟩ => ⟨S64x2x1, .f32⟩
  | .hbm, ⟨98, _⟩ => ⟨S64x2x524288, .f32⟩
  | .hbm, ⟨99, _⟩ => ⟨S64x2x524288, .f32⟩
  | .hbm, ⟨100, _⟩ => ⟨S64x2x32x128x128, .f32⟩
  | .hbm, ⟨101, _⟩ => ⟨S32x64x128x128x2, .f32⟩
  | _, _ => ⟨S32x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_7 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_8 : Ref sig .tc := ⟨.hbm, 54, rfl⟩
abbrev main_call1_v0 : Ref sig .tc := ⟨.hbm, 55, rfl⟩
abbrev main_call1_v1 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_11 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_12 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩

abbrev nD : Nat := 1
abbrev τ : Topo := Topo.v7x

variable {F : FTy → Type} [FloatOps F]
-- ==== Proof.KernelRun.lean ====
/- The idealized kernel's run, read at its result: the launch over the generated segments, whose last
   boundary holds every buffer at `W5`; the result array is read there beside the arguments. -/
module

public import proofs.«01_k».proof.Proof.Gen.KernelIdeal.Frame

@[expose] public section

noncomputable section

namespace Cert.KernelIdeal.Whiten

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat cellOf)

variable {F : FTy → Type} [FloatOps F] [Named F]
local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's @main terminates with the result array at the last
    boundary's contents and the four arguments as launched. -/
theorem run : θ_run defs (onTc (τ := τ) (main (F := F))) ⟨m, fun _ => 0, ρ⟩ fun r => ∀ c : Dev nD,
      r.2.mem ((c.tc : Thread nD τ).loc main_v6) = W5 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v6 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.KernelIdeal.Whiten

end
-- ==== Proof.Plane.lean ====
module

public import Idealize.ShloMosaic.Lib.Pointwise
public import Mathlib.Tactic.FieldSimp
public import Mathlib.Tactic.LinearCombination
public import Mathlib.Tactic.Linarith
public import Mathlib.Tactic.Ring

@[expose] public section

noncomputable section

namespace Whiten

/-- The tangent of the rotation that makes the symmetric matrix with rows `(a, b)` and `(b, d)`
diagonal. -/
def tangent (a b d : ℝ) : ℝ :=
  if b = 0 then 0
  else if 0 ≤ (d - a) / (2 * b) then
    1 / ((d - a) / (2 * b) + √(1 + (d - a) / (2 * b) * ((d - a) / (2 * b))))
  else 1 / ((d - a) / (2 * b) - √(1 + (d - a) / (2 * b) * ((d - a) / (2 * b))))

/-- The denominator of the tangent is not zero for a nonnegative argument. -/
theorem den_pos (τ : ℝ) (h : 0 ≤ τ) : 0 < τ + √(1 + τ * τ) := by
  have : 0 < √(1 + τ * τ) := Real.sqrt_pos.2 (by nlinarith [mul_self_nonneg τ])
  linarith

/-- The denominator of the tangent is not zero for a negative argument. -/
theorem den_neg (τ : ℝ) (h : ¬ 0 ≤ τ) : τ - √(1 + τ * τ) < 0 := by
  have : 0 ≤ √(1 + τ * τ) := Real.sqrt_nonneg _
  linarith

/-- The tangent solves the quadratic equation of the diagonalizing rotation. -/
theorem tangent_quadratic (a b d : ℝ) :
    b * (tangent a b d * tangent a b d) + (d - a) * tangent a b d - b = 0 := by
  unfold tangent
  split_ifs with hb h
  · simp [hb]
  all_goals
    set τ := (d - a) / (2 * b) with hτ
    have hr : √(1 + τ * τ) * √(1 + τ * τ) = 1 + τ * τ :=
      Real.mul_self_sqrt (by nlinarith [mul_self_nonneg τ])
    have hd : d - a = 2 * b * τ := by rw [hτ]; field_simp
    rw [hd]
  · have h0 := (den_pos τ h).ne'
    generalize √(1 + τ * τ) = r at *
    field_simp
    linear_combination (-b) * hr
  · have h0 := (den_neg τ h).ne
    generalize √(1 + τ * τ) = r at *
    field_simp
    linear_combination (-b) * hr

section

variable {a b d t ε c : ℝ}

/-- The product of the two eigenvalues is the determinant. -/
theorem eig_mul (ht : b * (t * t) + (d - a) * t - b = 0) :
    (a - t * b) * (d + t * b) = a * d - b * b := by
  linear_combination (-b) * ht

/-- The first eigenvalue of a positive semidefinite matrix is nonnegative. -/
theorem eig0_nonneg (ht : b * (t * t) + (d - a) * t - b = 0) (ha : 0 ≤ a) (hd : 0 ≤ d)
    (hdet : b * b ≤ a * d) : 0 ≤ a - t * b := by
  by_contra hn
  have hm := eig_mul ht
  have h1 : 0 < d + t * b := by linarith
  nlinarith [mul_pos (neg_pos.2 (not_le.1 hn)) h1]

/-- The second eigenvalue of a positive semidefinite matrix is nonnegative. -/
theorem eig1_nonneg (ht : b * (t * t) + (d - a) * t - b = 0) (ha : 0 ≤ a) (hd : 0 ≤ d)
    (hdet : b * b ≤ a * d) : 0 ≤ d + t * b := by
  by_contra hn
  have hm := eig_mul ht
  have h1 : 0 < a - t * b := by linarith
  nlinarith [mul_pos (neg_pos.2 (not_le.1 hn)) h1]

/-- The upper left entry in terms of the eigenvalues. -/
theorem entry00 (ht : b * (t * t) + (d - a) * t - b = 0) (hc : c * c * (1 + t * t) = 1) :
    c * c * (a - t * b) + t * c * (t * c) * (d + t * b) = a := by
  linear_combination a * hc + (c * c * t) * ht

/-- The lower right entry in terms of the eigenvalues. -/
theorem entry11 (ht : b * (t * t) + (d - a) * t - b = 0) (hc : c * c * (1 + t * t) = 1) :
    t * c * (t * c) * (a - t * b) + c * c * (d + t * b) = d := by
  linear_combination d * hc - (c * c * t) * ht

/-- The off-diagonal entry in terms of the eigenvalues. -/
theorem entry01 (ht : b * (t * t) + (d - a) * t - b = 0) (hc : c * c * (1 + t * t) = 1) :
    c * (t * c) * ((d + t * b) - (a - t * b)) = b := by
  linear_combination b * hc + (c * c) * ht

/-- The regularized determinant is the product of the regularized eigenvalues. -/
theorem det_shift (ht : b * (t * t) + (d - a) * t - b = 0) :
    (a + ε) * (d + ε) - b * b = (a - t * b + ε) * (d + t * b + ε) := by
  linear_combination b * ht

end

/-- The cosine of the rotation with tangent `t`. -/
def cosine (t : ℝ) : ℝ := 1 / √(1 + t * t)

/-- The squared cosine is the reciprocal of one plus the squared tangent. -/
theorem cosine_sq (t : ℝ) : cosine t * cosine t * (1 + t * t) = 1 := by
  have h0 : (0 : ℝ) < 1 + t * t := by nlinarith [mul_self_nonneg t]
  have h : √(1 + t * t) * √(1 + t * t) = 1 + t * t := Real.mul_self_sqrt h0.le
  have h1 : √(1 + t * t) ≠ 0 := (Real.sqrt_pos.2 h0).ne'
  unfold cosine
  generalize √(1 + t * t) = r at *
  field_simp
  linear_combination (-1) * h

/-- The square root of the regularized determinant. -/
def rootDet (a b d ε : ℝ) : ℝ := √((a + ε) * (d + ε) - b * b)

/-- The common factor of the inverse square root in the closed form. -/
def factor (a b d ε : ℝ) : ℝ :=
  1 / (rootDet a b d ε * √((a + ε) + (d + ε) + 2 * rootDet a b d ε))

/-- The reciprocal square root of the first regularized eigenvalue. -/
def rsq0 (a b d ε : ℝ) : ℝ := 1 / √(a - tangent a b d * b + ε)
/-- The reciprocal square root of the second regularized eigenvalue. -/
def rsq1 (a b d ε : ℝ) : ℝ := 1 / √(d + tangent a b d * b + ε)

/-- The sine of the rotation. -/
def sine (t : ℝ) : ℝ := t * cosine t

section

variable {a b d ε : ℝ} (ha : 0 ≤ a) (hd : 0 ≤ d) (hdet : b * b ≤ a * d) (hε : 0 < ε)

include ha hd hdet hε

/-- The first regularized eigenvalue is positive. -/
theorem shift0_pos : 0 < a - tangent a b d * b + ε := by
  have := eig0_nonneg (tangent_quadratic a b d) ha hd hdet
  linarith

/-- The second regularized eigenvalue is positive. -/
theorem shift1_pos : 0 < d + tangent a b d * b + ε := by
  have := eig1_nonneg (tangent_quadratic a b d) ha hd hdet
  linarith

/-- The regularized determinant is positive. -/
theorem det_pos : 0 < (a + ε) * (d + ε) - b * b := by
  rw [det_shift (tangent_quadratic a b d)]
  exact mul_pos (shift0_pos ha hd hdet hε) (shift1_pos ha hd hdet hε)

/-- The root of the regularized determinant is positive. -/
theorem rootDet_pos : 0 < rootDet a b d ε := Real.sqrt_pos.2 (det_pos ha hd hdet hε)

/-- The regularized trace with twice the root of the determinant is positive. -/
theorem trace_pos : 0 < (a + ε) + (d + ε) + 2 * rootDet a b d ε := by
  have := rootDet_pos ha hd hdet hε
  linarith

/-- The root of the determinant is the product of the roots of the eigenvalues. -/
theorem rootDet_eq : rootDet a b d ε
    = √(a - tangent a b d * b + ε) * √(d + tangent a b d * b + ε) := by
  unfold rootDet
  rw [det_shift (tangent_quadratic a b d), Real.sqrt_mul (shift0_pos ha hd hdet hε).le]

/-- The root of the trace with twice the root of the determinant is the sum of the roots of the eigenvalues. -/
theorem root_trace : √((a + ε) + (d + ε) + 2 * rootDet a b d ε)
    = √(a - tangent a b d * b + ε) + √(d + tangent a b d * b + ε) := by
  have h0 := Real.mul_self_sqrt (shift0_pos ha hd hdet hε).le
  have h1 := Real.mul_self_sqrt (shift1_pos ha hd hdet hε).le
  rw [rootDet_eq ha hd hdet hε]
  rw [show (a + ε) + (d + ε) + 2 * (√(a - tangent a b d * b + ε) * √(d + tangent a b d * b + ε))
      = (√(a - tangent a b d * b + ε) + √(d + tangent a b d * b + ε)) ^ 2 by
    linear_combination (-1) * h0 - h1]
  exact Real.sqrt_sq (add_nonneg (Real.sqrt_nonneg _) (Real.sqrt_nonneg _))

/-- The factor in terms of the square roots of the eigenvalues. -/
theorem factor_eq : factor a b d ε
    = 1 / (√(a - tangent a b d * b + ε) * √(d + tangent a b d * b + ε)
      * (√(a - tangent a b d * b + ε) + √(d + tangent a b d * b + ε))) := by
  unfold factor
  rw [root_trace ha hd hdet hε, rootDet_eq ha hd hdet hε]

/-- The upper left entry of the inverse square root: the rotation's form is the closed form. -/
theorem inv_sqrt00 : cosine (tangent a b d) * rsq0 a b d ε * cosine (tangent a b d)
      + sine (tangent a b d) * rsq1 a b d ε * sine (tangent a b d)
    = ((d + ε) + rootDet a b d ε) * factor a b d ε := by
  rw [factor_eq ha hd hdet hε, rootDet_eq ha hd hdet hε]
  have h0 := Real.mul_self_sqrt (shift0_pos ha hd hdet hε).le
  have h1 := Real.mul_self_sqrt (shift1_pos ha hd hdet hε).le
  have p0 := Real.sqrt_pos.2 (shift0_pos ha hd hdet hε)
  have p1 := Real.sqrt_pos.2 (shift1_pos ha hd hdet hε)
  have hq := tangent_quadratic a b d
  have hc := cosine_sq (tangent a b d)
  have e := entry11 hq hc
  unfold rsq0 rsq1 sine
  generalize tangent a b d = t at *
  generalize √(a - t * b + ε) = m0 at *
  generalize √(d + t * b + ε) = m1 at *
  generalize cosine t = c at *
  field_simp
  linear_combination e + (-t * t * c * c) * h0 * (-1) + (c * c) * h1 + (ε + m0 * m1) * hc

/-- The off-diagonal entry of the inverse square root. -/
theorem inv_sqrt01 : cosine (tangent a b d) * rsq0 a b d ε * (-sine (tangent a b d))
      + sine (tangent a b d) * rsq1 a b d ε * cosine (tangent a b d)
    = (0 - b) * factor a b d ε := by
  rw [factor_eq ha hd hdet hε]
  have h0 := Real.mul_self_sqrt (shift0_pos ha hd hdet hε).le
  have h1 := Real.mul_self_sqrt (shift1_pos ha hd hdet hε).le
  have p0 := Real.sqrt_pos.2 (shift0_pos ha hd hdet hε)
  have p1 := Real.sqrt_pos.2 (shift1_pos ha hd hdet hε)
  have hq := tangent_quadratic a b d
  have hc := cosine_sq (tangent a b d)
  have e := entry01 hq hc
  unfold rsq0 rsq1 sine
  generalize tangent a b d = t at *
  generalize √(a - t * b + ε) = m0 at *
  generalize √(d + t * b + ε) = m1 at *
  generalize cosine t = c at *
  field_simp
  linear_combination (-1) * e + (t * c * c) * h0 - (t * c * c) * h1

/-- The lower right entry of the inverse square root. -/
theorem inv_sqrt11 : -sine (tangent a b d) * rsq0 a b d ε * (-sine (tangent a b d))
      + cosine (tangent a b d) * rsq1 a b d ε * cosine (tangent a b d)
    = ((a + ε) + rootDet a b d ε) * factor a b d ε := by
  rw [factor_eq ha hd hdet hε, rootDet_eq ha hd hdet hε]
  have h0 := Real.mul_self_sqrt (shift0_pos ha hd hdet hε).le
  have h1 := Real.mul_self_sqrt (shift1_pos ha hd hdet hε).le
  have p0 := Real.sqrt_pos.2 (shift0_pos ha hd hdet hε)
  have p1 := Real.sqrt_pos.2 (shift1_pos ha hd hdet hε)
  have hq := tangent_quadratic a b d
  have hc := cosine_sq (tangent a b d)
  have e := entry00 hq hc
  unfold rsq0 rsq1 sine
  generalize tangent a b d = t at *
  generalize √(a - t * b + ε) = m0 at *
  generalize √(d + t * b + ε) = m1 at *
  generalize cosine t = c at *
  field_simp
  linear_combination e + (c * c) * h0 + (t * t * c * c) * h1 + (ε + m0 * m1) * hc

end

section

variable {ι : Type} [Fintype ι] (u v : ι → ℝ)

/-- The sum of centered products from the plain sums: `n` is the number of terms. -/
theorem sum_centered (n : ℝ) (hn : n = Fintype.card ι) (h0 : n ≠ 0) :
    ∑ i, (u i - (∑ j, u j) / n) * (v i - (∑ j, v j) / n)
      = ∑ i, u i * v i - (∑ i, u i) * ((∑ i, v i) / n) := by
  have e : ∀ i, (u i - (∑ j, u j) / n) * (v i - (∑ j, v j) / n)
      = u i * v i - (∑ j, u j) / n * v i - u i * ((∑ j, v j) / n)
        + (∑ j, u j) / n * ((∑ j, v j) / n) := fun i => by ring
  simp only [e, Finset.sum_add_distrib, Finset.sum_sub_distrib, ← Finset.mul_sum,
    ← Finset.sum_mul, Finset.sum_const, Finset.card_univ, nsmul_eq_mul, ← hn]
  field_simp
  ring

/-- The product of the cross sum with itself is at most the product of the square sums. -/
theorem sum_mul_sq : (∑ i, u i * v i) * (∑ i, u i * v i)
    ≤ (∑ i, u i * u i) * (∑ i, v i * v i) := by
  have h := Finset.sum_mul_sq_le_sq_mul_sq Finset.univ u v
  simpa only [pow_two] using h

end

/-- The number added to the variances: the real number of the 32-bit pattern of `1e-5`. -/
def eps : ℝ := 10995116 / 1099511627776

/-- The number added to the variances is positive. -/
theorem eps_pos : 0 < eps := by unfold eps; norm_num

section

variable {ι : Type} [Fintype ι] (u v : ι → ℝ)

/-- The mean over the `524288` samples of a channel. -/
def mean : ℝ := (∑ i, u i) / 524288

/-- The covariance over the samples of a channel, with the divisor `524287`. -/
def cov : ℝ := (∑ i, (u i - mean u) * (v i - mean v)) / 524287

/-- The covariance from the plain sums. -/
theorem cov_eq (h : Fintype.card ι = 524288) :
    (∑ i, u i * v i - (∑ i, u i) * mean v) * (524287 : ℝ)⁻¹ = cov u v := by
  unfold cov mean
  rw [sum_centered u v 524288 (by rw [h]; norm_num) (by norm_num)]
  exact (div_eq_mul_inv _ _).symm

/-- A variance is not negative. -/
theorem cov_self_nonneg : 0 ≤ cov u u :=
  div_nonneg (Finset.sum_nonneg fun _ _ => mul_self_nonneg _) (by norm_num)

/-- The covariance matrix is positive semidefinite. -/
theorem cov_det : cov u v * cov u v ≤ cov u u * cov v v := by
  have h := sum_mul_sq (fun i => u i - mean u) (fun i => v i - mean v)
  unfold cov
  rw [div_mul_div_comm, div_mul_div_comm]
  exact div_le_div_of_nonneg_right h (by norm_num)

/-- The root of the regularized determinant of the covariance matrix. -/
def root : ℝ := rootDet (cov u u) (cov u v) (cov v v) eps
/-- The common factor of the entries of the inverse square root. -/
def fac : ℝ := factor (cov u u) (cov u v) (cov v v) eps
/-- The upper left entry of the inverse square root. -/
def p00 : ℝ := ((cov v v + eps) + root u v) * fac u v
/-- The entry off the diagonal of the inverse square root. -/
def p01 : ℝ := (0 - cov u v) * fac u v
/-- The lower right entry of the inverse square root. -/
def p11 : ℝ := ((cov u u + eps) + root u v) * fac u v

/-- One component of the result without its shift: the row `(g0, g1)` applied to the whitened sample. -/
def whitened (g0 g1 : ℝ) (i : ι) : ℝ :=
  g0 * (p00 u v * (u i - mean u) + p01 u v * (v i - mean v))
    + g1 * (p01 u v * (u i - mean u) + p11 u v * (v i - mean v))

end

end Whiten

end
-- ==== Proof.Scalars.lean ====
module

public import proofs.«01_k».proof.Proof.Plane
public import Idealize.ShloMosaic.Lib.IdealHost

@[expose] public section

noncomputable section

namespace Whiten

open Idealize.ShloMosaic

/-- The pattern of the number of samples. -/
theorem bits_n : Ideal.ofBits .f32 0x49000000#32 = ((524288 : ℝ) : EReal) := by
  simp [Ideal.ofBits, Ideal.ieee, -EReal.coe_mul]; norm_num

/-- The pattern of the number of samples less one. -/
theorem bits_nm1 : Ideal.ofBits .f32 0x48FFFFE0#32 = ((524287 : ℝ) : EReal) := by
  simp [Ideal.ofBits, Ideal.ieee, -EReal.coe_mul]; norm_num

/-- The pattern of two. -/
theorem bits_two : Ideal.ofBits .f32 0x40000000#32 = ((2 : ℝ) : EReal) := by
  simp [Ideal.ofBits, Ideal.ieee, -EReal.coe_mul]; norm_num

/-- The pattern of the number added to the variances. -/
theorem bits_eps : Ideal.ofBits .f32 0x3727C5AC#32 = (eps : EReal) := by
  unfold eps
  simp [Ideal.ofBits, Ideal.ieee, -EReal.coe_mul]; norm_num

/-- The pattern of infinity. -/
theorem bits_inf : Ideal.ofBits .f32 0x7F800000#32 = ⊤ := by
  simp [Ideal.ofBits, Ideal.ieee]

/-- The quotient of two reals is the real quotient when the divisor is not zero. -/
theorem div_real (x : ℝ) {y : ℝ} (h : y ≠ 0) : Ideal.div (x : EReal) y = ((x / y : ℝ) : EReal) := by
  rw [Ideal.div_coe h, ← EReal.coe_mul, mul_one_div]

/-- The reciprocal of a real that is not zero is the real reciprocal. -/
theorem div_one_real {y : ℝ} (h : y ≠ 0) : Ideal.div 1 (y : EReal) = ((1 / y : ℝ) : EReal) := by
  rw [Ideal.div_coe h, one_mul]

/-- The square root of a nonnegative real is the real square root. -/
theorem sqrt_real {x : ℝ} (h : 0 ≤ x) : Ideal.sqrt (x : EReal) = ((√x : ℝ) : EReal) := by
  rw [Ideal.sqrt_coe, if_neg (not_lt.2 h)]

/-- A finite sum of reals is the real sum. -/
theorem sum_real {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Adding a real and the difference of any value and a real. -/
theorem add_sub_real (a b : ℝ) (x : EReal) :
    (a : EReal) + (x - (b : EReal)) = ((a - b : ℝ) : EReal) + x := by
  rw [sub_eq_add_neg, EReal.coe_sub, sub_eq_add_neg, ← EReal.coe_neg]
  rw [add_comm x, ← add_assoc]

/-- An extended real whose absolute value is below the top is a real. -/
theorem real_of_abs_lt {x : EReal} (h : max x (-x) < ⊤) : ∃ r : ℝ, x = (r : EReal) := by
  induction x with
  | bot => simp at h
  | coe r => exact ⟨r, rfl⟩
  | top => simp at h

end Whiten

end
-- ==== Proof.Infinite.lean ====
module

public import proofs.«01_k».proof.Proof.Scalars

@[expose] public section

noncomputable section

namespace Whiten

open Idealize.ShloMosaic

/-- The extended real is one of the two infinities. -/
def IsInf (z : EReal) : Prop := z = ⊤ ∨ z = ⊥

/-- A value that is no infinity is a real. -/
theorem real_of_not {z : EReal} (h : ¬ IsInf z) : ∃ r : ℝ, z = (r : EReal) := by
  induction z with
  | bot => exact (h (.inr rfl)).elim
  | coe r => exact ⟨r, rfl⟩
  | top => exact (h (.inl rfl)).elim

variable {z : EReal} (h : IsInf z)

include h

/-- An infinity is not zero. -/
theorem IsInf.ne_zero : z ≠ 0 := by
  rcases h with rfl | rfl <;> simp

/-- An infinity plus any value is an infinity. -/
theorem IsInf.add_left (w : EReal) : IsInf (z + w) := by
  rcases h with rfl | rfl <;> induction w <;> simp [IsInf]

/-- Any value plus an infinity is an infinity. -/
theorem IsInf.add_right (w : EReal) : IsInf (w + z) := add_comm z w ▸ h.add_left w

/-- An infinity less any value is an infinity. -/
theorem IsInf.sub_left (w : EReal) : IsInf (z - w) := sub_eq_add_neg z w ▸ h.add_left (-w)

/-- Any value less an infinity is an infinity. -/
theorem IsInf.sub_right (w : EReal) : IsInf (w - z) := by
  have h' : IsInf (-z) := by rcases h with rfl | rfl <;> simp [IsInf]
  exact sub_eq_add_neg w z ▸ h'.add_right w

/-- An infinity times a value that is not zero is an infinity. -/
theorem IsInf.mul_left {w : EReal} (hw : w ≠ 0) : IsInf (z * w) := by
  rcases lt_or_gt_of_ne hw with hw | hw <;> rcases h with rfl | rfl <;>
    simp [IsInf, EReal.top_mul_of_neg, EReal.bot_mul_of_neg, EReal.top_mul_of_pos, EReal.bot_mul_of_pos, hw]

/-- A value that is not zero times an infinity is an infinity. -/
theorem IsInf.mul_right {w : EReal} (hw : w ≠ 0) : IsInf (w * z) := mul_comm z w ▸ h.mul_left hw

/-- An infinity over a real that is not zero is an infinity. -/
theorem IsInf.div_real {y : ℝ} (hy : y ≠ 0) : IsInf (Ideal.div z (y : EReal)) := by
  rw [Ideal.div_coe hy]
  exact h.mul_left (by rw [Ne, EReal.coe_eq_zero]; exact one_div_ne_zero hy)

/-- The square root of an infinity is an infinity. -/
theorem IsInf.sqrt : IsInf (Ideal.sqrt z) := by
  rcases h with rfl | rfl
  · exact .inl rfl
  · exact .inr rfl

/-- Any value over an infinity is zero. -/
theorem IsInf.div_zero (w : EReal) : Ideal.div w z = 0 := by
  unfold Ideal.div
  rw [if_neg h.ne_zero]
  rcases h with rfl | rfl <;> simp

omit h

/-- A sum with an infinite term is an infinity. -/
theorem IsInf.sum {ι : Type} [Fintype ι] {f : ι → EReal} (h : ∃ i, IsInf (f i)) : IsInf (∑ i, f i) := by
  classical
  obtain ⟨i, hi⟩ := h
  rw [← Finset.add_sum_erase _ _ (Finset.mem_univ i)]
  exact hi.add_left _

end Whiten

end
-- ==== Proof.Shuffle.lean ====
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Whiten

open Cert.KernelIdeal Cert.KernelIdeal.Gen Idealize.ShloMosaic Idealize.ShloMosaic.TcCoe Idealize.SL.Sem

/-- The mask of the odd rows of a group of eight. -/
theorem parity_at (c : Fin 64) (g : Fin 16) (r : Fin 8) (l : Fin 128) :
    k1_pay27 (ix4 c g r l) = BitVec.ofBool (decide (r.val % 2 = 1)) := by
  pointwise [k1_pay27]
  revert r; decide

/-- The half of the row number, as the kernel's quotient and its correction give it. -/
theorem half_at (c : Fin 64) (g : Fin 16) (r : Fin 8) (l : Fin 128) :
    Scalar.select (k1_pay29 (ix4 c g r l)) (IntOp.subi (k1_pay28 (ix4 c g r l)) 1#32)
      (k1_pay28 (ix4 c g r l)) = BitVec.ofNat 32 (r.val / 2) := by
  pointwise [k1_pay28, k1_pay29]
  revert r; decide

/-- The row gathered in the first half of a group. -/
theorem row_low (n : ℕ) :
    (Scalar.select (IntOp.cmpi CmpIPredicate.slt (BitVec.ofNat 32 (n % 8 / 2)) 0#32)
      (IntOp.addi (BitVec.ofNat 32 (n % 8 / 2)) 8#32) (BitVec.ofNat 32 (n % 8 / 2))).toNat % 8
      = n % 8 / 2 := by
  have h : ∀ s : Fin 8, (Scalar.select (IntOp.cmpi CmpIPredicate.slt (BitVec.ofNat 32 (s.val / 2)) 0#32)
      (IntOp.addi (BitVec.ofNat 32 (s.val / 2)) 8#32) (BitVec.ofNat 32 (s.val / 2))).toNat % 8
      = s.val / 2 := by decide
  exact h ⟨n % 8, Nat.mod_lt _ (by norm_num)⟩

/-- The row gathered in the second half of a group. -/
theorem row_high (n : ℕ) :
    (Scalar.select (IntOp.cmpi CmpIPredicate.slt (IntOp.addi (BitVec.ofNat 32 (n % 8 / 2)) 4#32) 0#32)
      (IntOp.addi (IntOp.addi (BitVec.ofNat 32 (n % 8 / 2)) 4#32) 8#32)
      (IntOp.addi (BitVec.ofNat 32 (n % 8 / 2)) 4#32)).toNat % 8
      = n % 8 / 2 + 4 := by
  have h : ∀ s : Fin 8,
      (Scalar.select (IntOp.cmpi CmpIPredicate.slt (IntOp.addi (BitVec.ofNat 32 (s.val / 2)) 4#32) 0#32)
      (IntOp.addi (IntOp.addi (BitVec.ofNat 32 (s.val / 2)) 4#32) 8#32)
      (IntOp.addi (BitVec.ofNat 32 (s.val / 2)) 4#32)).toNat % 8
      = s.val / 2 + 4 := by decide
  exact h ⟨n % 8, Nat.mod_lt _ (by norm_num)⟩

/-- A selection by the bit of a proposition. -/
theorem select_bool {α : Type} (p : Prop) [Decidable p] (x y : α) :
    Scalar.select (BitVec.ofBool (decide p)) x y = if p then x else y := by
  by_cases h : p <;> simp [h, Scalar.select]

/-- The interleaved rows: row `r` of the stored block is row `r / 2` of the second array when `r` is
odd, of the first one when it is even. -/
theorem shuffle_at (x y : FVec Ideal S64x16x8x128 .f32) (c : Fin 64) (r : Fin 256) (l : Fin 128) :
    k1_pay30 x y k1_pay27 k1_pay28 k1_pay29 1#32 (ix4 0 c r l)
      = if r.val % 2 = 1 then y (ix4 c ⟨r.val / 16, by omega⟩ ⟨r.val % 16 / 2, by omega⟩ l)
        else x (ix4 c ⟨r.val / 16, by omega⟩ ⟨r.val % 16 / 2, by omega⟩ l) := by
  pointwise [k1_pay30]
  simp only [half_at, parity_at, row_low, row_high, select_bool]
  have e : r.val % 8 % 2 = r.val % 2 := by omega
  by_cases h : r.val / 8 % 2 < 1
  · have i : r.val % 8 / 2 = r.val % 16 / 2 := by omega
    simp only [dif_pos h, e, i]
  · have i : r.val % 8 / 2 + 4 = r.val % 16 / 2 := by omega
    simp only [dif_neg h, e, i]

end Cert.KernelIdeal.Whiten

end
-- ==== Proof.Row.lean ====
module

public import proofs.«01_k».proof.Proof.Gen.KernelIdeal.Frame
public import proofs.«01_k».proof.Proof.Infinite
public import proofs.«01_k».proof.Proof.Shuffle
public import Idealize.ShloMosaic.Lib.Pipeline.ValueKit
public import Idealize.ShloMosaic.Lib.Pointwise

@[expose] public section

set_option maxRecDepth 16384

noncomputable section

namespace Cert.KernelIdeal.Whiten

open Cert.KernelIdeal Cert.KernelIdeal.Gen Idealize.ShloMosaic Idealize.ShloMosaic.TcCoe Idealize.SL.Sem
open _root_.Whiten

/-- The named constant is the reciprocal of the number of samples less one. -/
theorem inv_nm1 : Named.named (F := Ideal) (φ := .f32) κ "inv_nm1" 0x36000010#32
    = (((524287 : ℝ)⁻¹ : ℝ) : EReal) := rfl

/-- The sums over the partials of one channel: the lanes hold the five sums over the samples. -/
structure Sums {ι : Type} [Fintype ι] (U W : ι → EReal) (x : FVec Ideal S16x64x128 .f32) (c : Fin 64) : Prop where
  s0 : ∑ t, x (ix3 t c 0) = ∑ i, U i
  s1 : ∑ t, x (ix3 t c 1) = ∑ i, W i
  s2 : ∑ t, x (ix3 t c 2) = ∑ i, U i * U i
  s3 : ∑ t, x (ix3 t c 3) = ∑ i, W i * W i
  s4 : ∑ t, x (ix3 t c 4) = ∑ i, U i * W i

/-- The kernel's first sum adds the partials of a lane. -/
theorem lane_sum (x : FVec Ideal S16x64x128 .f32) (c : Fin 64) (l : Fin 128) :
    k1_pay3 (F := Ideal) x (ix2 c l) = ∑ t, x (ix3 t c l) := by
  pointwise [k1_pay3]

section

variable {ι : Type} [Fintype ι] {U W : ι → EReal} {u v : ι → ℝ} {x : FVec Ideal S16x64x128 .f32} {c : Fin 64}
  (h : Sums U W x c) (hn : Fintype.card ι = 524288) (hU : ∀ i, U i = (u i : EReal)) (hW : ∀ i, W i = (v i : EReal))

include h

/-- The sum of the real parts, whether they are finite or not. -/
theorem total_u : k1_pay5 (F := Ideal) x (ix2 c 0) = ∑ i, U i := by
  rw [← h.s0, ← lane_sum]; pointwise [k1_pay5]

/-- The sum of the imaginary parts, whether they are finite or not. -/
theorem total_v : k1_pay6 (F := Ideal) x (ix2 c 0) = ∑ i, W i := by
  rw [← h.s1, ← lane_sum]; pointwise [k1_pay6]

include hU in
/-- The sum of the real parts. -/
theorem sum_u : k1_pay5 (F := Ideal) x (ix2 c 0) = ((∑ i, u i : ℝ) : EReal) := by
  rw [total_u h, ← sum_real]; simp only [hU]

include hW in
/-- The sum of the imaginary parts. -/
theorem sum_v : k1_pay6 (F := Ideal) x (ix2 c 0) = ((∑ i, v i : ℝ) : EReal) := by
  rw [total_v h, ← sum_real]; simp only [hW]

include hU in
/-- The mean of the real parts. -/
theorem mean_u : k1_pay7 (F := Ideal) x (ix2 c 0) = (mean u : EReal) := by
  pointwise [k1_pay7]
  rw [sum_u h hU, bits_n, div_real _ (by norm_num)]; rfl

include hW in
/-- The mean of the imaginary parts. -/
theorem mean_v : k1_pay8 (F := Ideal) x (ix2 c 0) = (mean v : EReal) := by
  pointwise [k1_pay8]
  rw [sum_v h hW, bits_n, div_real _ (by norm_num)]; rfl

include hn

include hU in
/-- The regularized variance of the real parts. -/
theorem var_u : k1_pay9 (F := Ideal) x (ix2 c 0) = ((cov u u + eps : ℝ) : EReal) := by
  pointwise [k1_pay9]
  rw [lane_sum, h.s2, sum_u h hU, mean_u h hU, bits_eps, inv_nm1, ← cov_eq u u hn]
  simp only [hU, ← EReal.coe_mul, sum_real, ← EReal.coe_sub, ← EReal.coe_add]

include hW in
/-- The regularized variance of the imaginary parts. -/
theorem var_v : k1_pay10 (F := Ideal) x (ix2 c 0) = ((cov v v + eps : ℝ) : EReal) := by
  pointwise [k1_pay10]
  rw [lane_sum, h.s3, sum_v h hW, mean_v h hW, bits_eps, inv_nm1, ← cov_eq v v hn]
  simp only [hW, ← EReal.coe_mul, sum_real, ← EReal.coe_sub, ← EReal.coe_add]

include hU hW

/-- The covariance of the real and the imaginary parts. -/
theorem cov_uv : k1_pay11 (F := Ideal) x (ix2 c 0) = (cov u v : EReal) := by
  pointwise [k1_pay11]
  rw [lane_sum, h.s4, sum_u h hU, mean_v h hW, inv_nm1, ← cov_eq u v hn]
  simp only [hU, hW, ← EReal.coe_mul, sum_real, ← EReal.coe_sub]

/-- The root of the regularized determinant. -/
theorem root_uv : k1_pay12 (F := Ideal) x (ix2 c 0) = (root u v : EReal) := by
  pointwise [k1_pay12]
  rw [var_u h hn hU, var_v h hn hW, cov_uv h hn hU hW, ← EReal.coe_mul, ← EReal.coe_mul, ← EReal.coe_sub, sqrt_real]
  · rfl
  · exact (det_pos (cov_self_nonneg u) (cov_self_nonneg v) (cov_det u v) eps_pos).le

/-- The common factor of the inverse square root. -/
theorem fac_uv : k1_pay13 (F := Ideal) (k1_pay9 x) (k1_pay10 x) (k1_pay12 x) (ix2 c 0) = (fac u v : EReal) := by
  have hr := rootDet_pos (cov_self_nonneg u) (cov_self_nonneg v) (cov_det u v) eps_pos
  have ht := trace_pos (cov_self_nonneg u) (cov_self_nonneg v) (cov_det u v) eps_pos
  pointwise [k1_pay13]
  rw [var_u h hn hU, var_v h hn hW, root_uv h hn hU hW, bits_two, ← EReal.coe_add, ← EReal.coe_mul, ← EReal.coe_add, root,
    sqrt_real ht.le, ← EReal.coe_mul, div_one_real (mul_pos hr (Real.sqrt_pos.2 ht)).ne']
  rfl

/-- The upper left entry of the inverse square root. -/
theorem p00_uv : k1_pay14 (F := Ideal) (k1_pay9 x) (k1_pay10 x) (k1_pay12 x) (ix2 c 0) = (p00 u v : EReal) := by
  pointwise [k1_pay14]
  rw [fac_uv h hn hU hW, var_v h hn hW, root_uv h hn hU hW, ← EReal.coe_add, ← EReal.coe_mul]; rfl

/-- The entry off the diagonal of the inverse square root. -/
theorem p01_uv : k1_pay15 (F := Ideal) (k1_pay9 x) (k1_pay10 x) (k1_pay11 x) (k1_pay12 x) (ix2 c 0)
    = (p01 u v : EReal) := by
  pointwise [k1_pay15]
  rw [fac_uv h hn hU hW, cov_uv h hn hU hW, ← EReal.coe_zero, ← EReal.coe_sub, ← EReal.coe_mul]; rfl

/-- The lower right entry of the inverse square root. -/
theorem p11_uv : k1_pay16 (F := Ideal) (k1_pay9 x) (k1_pay10 x) (k1_pay12 x) (ix2 c 0) = (p11 u v : EReal) := by
  pointwise [k1_pay16]
  rw [fac_uv h hn hU hW, var_u h hn hU, root_uv h hn hU hW, ← EReal.coe_add, ← EReal.coe_mul]; rfl

variable {x0 x1 : FVec Ideal S1x64x128x128 .f32} {x3 : FVec Ideal S64x128 .f32} {g0 g1 : ℝ} {i : ι}
  {r : Fin 128} {l : Fin 128}
  (hu : x0 (ix4 0 c r l) = (u i : EReal)) (hv : x1 (ix4 0 c r l) = (v i : EReal))

include hu hv

/-- The first component of the result at a sample. -/
theorem first_at (h0 : x3 (ix2 c 0) = (g0 : EReal)) (h1 : x3 (ix2 c 1) = (g1 : EReal)) :
    k1_pay22 (F := Ideal) (k1_pay1 x0) (k1_pay2 x1) (k1_pay4 x3) (k1_pay7 x) (k1_pay8 x) (k1_pay9 x) (k1_pay10 x)
      (k1_pay11 x) (k1_pay12 x) (ix3 c r l) = (whitened u v g0 g1 i : EReal) + x3 (ix2 c 4) := by
  pointwise [k1_pay22, k1_pay1, k1_pay2, k1_pay4]
  rw [p00_uv h hn hU hW, p01_uv h hn hU hW, p11_uv h hn hU hW, mean_u h hU, mean_v h hW, h0, h1, hu, hv]
  simp only [← EReal.coe_mul, ← EReal.coe_add]
  rw [add_sub_real]
  congr 2
  unfold whitened
  ring

/-- The second component of the result at a sample. -/
theorem second_at (h0 : x3 (ix2 c 2) = (g0 : EReal)) (h1 : x3 (ix2 c 3) = (g1 : EReal)) (g : Fin 16) (s : Fin 8)
    (e : r = ⟨g.val * 8 + s.val, by omega⟩) :
    k1_pay26 (F := Ideal) (k1_pay2 x1)
      (k1_pay21 (k1_pay4 x3) (k1_pay7 x) (k1_pay8 x) (k1_pay9 x) (k1_pay10 x) (k1_pay11 x) (k1_pay12 x))
      (k1_pay23 (k1_pay1 x0) (k1_pay4 x3) (k1_pay9 x) (k1_pay10 x) (k1_pay11 x) (k1_pay12 x))
      (k1_pay24 (k1_pay4 x3) (k1_pay9 x) (k1_pay10 x) (k1_pay11 x) (k1_pay12 x)) (ix4 c g s l)
      = (whitened u v g0 g1 i : EReal) + x3 (ix2 c 5) := by
  pointwise [k1_pay26, k1_pay21, k1_pay23, k1_pay24, k1_pay19, k1_pay20, k1_pay17, k1_pay18, k1_pay1, k1_pay2, k1_pay4]
  subst e
  rw [p00_uv h hn hU hW, p01_uv h hn hU hW, p11_uv h hn hU hW, mean_u h hU, mean_v h hW, h0, h1, hu, hv]
  simp only [← EReal.coe_mul, ← EReal.coe_add]
  rw [add_sub_real]
  congr 2
  unfold whitened
  ring

end

section

variable {ι : Type} [Fintype ι] {U W : ι → EReal} {x : FVec Ideal S16x64x128 .f32} {c : Fin 64} (h : Sums U W x c)

include h

/-- Where a real part is infinite the mean of the real parts is. -/
theorem mean_u_inf (hi : ∃ i, IsInf (U i)) : IsInf (k1_pay7 (F := Ideal) x (ix2 c 0)) := by
  pointwise [k1_pay7]
  rw [total_u h, bits_n]
  exact (IsInf.sum hi).div_real (by norm_num)

/-- Where an imaginary part is infinite the mean of the imaginary parts is. -/
theorem mean_v_inf (hi : ∃ i, IsInf (W i)) : IsInf (k1_pay8 (F := Ideal) x (ix2 c 0)) := by
  pointwise [k1_pay8]
  rw [total_v h, bits_n]
  exact (IsInf.sum hi).div_real (by norm_num)

/-- Where a real part is infinite the variance of the real parts is. -/
theorem var_u_inf (hi : ∃ i, IsInf (U i)) : IsInf (k1_pay9 (F := Ideal) x (ix2 c 0)) := by
  have hs := total_u h ▸ IsInf.sum hi
  pointwise [k1_pay9]
  rw [inv_nm1]
  exact (((hs.mul_left (mean_u_inf h hi).ne_zero).sub_right _).mul_left
    (by rw [Ne, EReal.coe_eq_zero]; norm_num)).add_left _

/-- Where an imaginary part is infinite the variance of the imaginary parts is. -/
theorem var_v_inf (hi : ∃ i, IsInf (W i)) : IsInf (k1_pay10 (F := Ideal) x (ix2 c 0)) := by
  have hs := total_v h ▸ IsInf.sum hi
  pointwise [k1_pay10]
  rw [inv_nm1]
  exact (((hs.mul_left (mean_v_inf h hi).ne_zero).sub_right _).mul_left
    (by rw [Ne, EReal.coe_eq_zero]; norm_num)).add_left _

/-- Where a real and an imaginary part are infinite the covariance is. -/
theorem cov_inf (hi : ∃ i, IsInf (U i)) (hj : ∃ i, IsInf (W i)) : IsInf (k1_pay11 (F := Ideal) x (ix2 c 0)) := by
  have hs := total_u h ▸ IsInf.sum hi
  pointwise [k1_pay11]
  rw [inv_nm1]
  exact ((hs.mul_left (mean_v_inf h hj).ne_zero).sub_right _).mul_left
    (by rw [Ne, EReal.coe_eq_zero]; norm_num)

variable (hn : Fintype.card ι = 524288) (hi : (∃ i, IsInf (U i)) ∨ ∃ i, IsInf (W i))

include hn hi

/-- Where a part of a sample is infinite the root of the determinant is. -/
theorem root_inf : IsInf (k1_pay12 (F := Ideal) x (ix2 c 0)) := by
  pointwise [k1_pay12]
  refine IsInf.sqrt ?_
  by_cases hU : ∃ i, IsInf (U i)
  · by_cases hW : ∃ i, IsInf (W i)
    · exact ((cov_inf h hU hW).mul_left (cov_inf h hU hW).ne_zero).sub_right _
    · obtain ⟨v, hv⟩ := Classical.skolem.1 fun i => real_of_not (not_exists.1 hW i)
      refine ((var_u_inf h hU).mul_left ?_).sub_left _
      rw [var_v h hn hv, Ne, EReal.coe_eq_zero]
      exact (add_pos_of_nonneg_of_pos (cov_self_nonneg v) eps_pos).ne'
  · obtain ⟨u, hu⟩ := Classical.skolem.1 fun i => real_of_not (not_exists.1 hU i)
    refine ((var_v_inf h (hi.resolve_left hU)).mul_right ?_).sub_left _
    rw [var_u h hn hu, Ne, EReal.coe_eq_zero]
    exact (add_pos_of_nonneg_of_pos (cov_self_nonneg u) eps_pos).ne'

/-- Where a part of a sample is infinite the common factor is zero. -/
theorem fac_zero : k1_pay13 (F := Ideal) (k1_pay9 x) (k1_pay10 x) (k1_pay12 x) (ix2 c 0) = 0 := by
  have hr := root_inf h hn hi
  pointwise [k1_pay13]
  rw [bits_two]
  refine (hr.mul_left (IsInf.ne_zero ?_)).div_zero _
  exact ((hr.mul_right (by rw [Ne, EReal.coe_eq_zero]; norm_num)).add_right _).sqrt

/-- Where a part of a sample is infinite the entries of the kernel's inverse square root are zero. -/
theorem entries_zero : k1_pay14 (F := Ideal) (k1_pay9 x) (k1_pay10 x) (k1_pay12 x) (ix2 c 0) = 0
    ∧ k1_pay15 (F := Ideal) (k1_pay9 x) (k1_pay10 x) (k1_pay11 x) (k1_pay12 x) (ix2 c 0) = 0
    ∧ k1_pay16 (F := Ideal) (k1_pay9 x) (k1_pay10 x) (k1_pay12 x) (ix2 c 0) = 0 := by
  refine ⟨?_, ?_, ?_⟩
  · pointwise [k1_pay14]; rw [fac_zero h hn hi, mul_zero]
  · pointwise [k1_pay15]; rw [fac_zero h hn hi, mul_zero]
  · pointwise [k1_pay16]; rw [fac_zero h hn hi, mul_zero]

variable (x0 x1 : FVec Ideal S1x64x128x128 .f32) (x3 : FVec Ideal S64x128 .f32)

/-- Where a part of a sample is infinite the first component of the result is the shift. -/
theorem first_inf (r l : Fin 128) :
    k1_pay22 (F := Ideal) (k1_pay1 x0) (k1_pay2 x1) (k1_pay4 x3) (k1_pay7 x) (k1_pay8 x) (k1_pay9 x) (k1_pay10 x)
      (k1_pay11 x) (k1_pay12 x) (ix3 c r l) = x3 (ix2 c 4) := by
  obtain ⟨e0, e1, e2⟩ := entries_zero h hn hi
  pointwise [k1_pay22, k1_pay1, k1_pay2, k1_pay4]
  rw [e0, e1, e2]
  simp only [mul_zero, zero_mul, add_zero, zero_add, sub_zero]

/-- Where a part of a sample is infinite the second component of the result is the shift. -/
theorem second_inf (g : Fin 16) (s : Fin 8) (l : Fin 128) :
    k1_pay26 (F := Ideal) (k1_pay2 x1)
      (k1_pay21 (k1_pay4 x3) (k1_pay7 x) (k1_pay8 x) (k1_pay9 x) (k1_pay10 x) (k1_pay11 x) (k1_pay12 x))
      (k1_pay23 (k1_pay1 x0) (k1_pay4 x3) (k1_pay9 x) (k1_pay10 x) (k1_pay11 x) (k1_pay12 x))
      (k1_pay24 (k1_pay4 x3) (k1_pay9 x) (k1_pay10 x) (k1_pay11 x) (k1_pay12 x)) (ix4 c g s l) = x3 (ix2 c 5) := by
  obtain ⟨e0, e1, e2⟩ := entries_zero h hn hi
  pointwise [k1_pay26, k1_pay21, k1_pay23, k1_pay24, k1_pay19, k1_pay20, k1_pay17, k1_pay18, k1_pay1, k1_pay2, k1_pay4]
  rw [e0, e1, e2]
  simp only [mul_zero, zero_mul, add_zero, zero_add, sub_zero]

end

/-- The block a grid point stores: row `r` holds component `r % 2` of the results of row `r / 2`. -/
theorem block_at {x : FVec Ideal S16x64x128 .f32} {c : Fin 64} {x0 x1 : FVec Ideal S1x64x128x128 .f32}
    {x3 : FVec Ideal S64x128 .f32} {A B : EReal} (r : Fin 256) (l : Fin 128)
    (hA : k1_pay22 (F := Ideal) (k1_pay1 x0) (k1_pay2 x1) (k1_pay4 x3) (k1_pay7 x) (k1_pay8 x) (k1_pay9 x) (k1_pay10 x)
      (k1_pay11 x) (k1_pay12 x) (ix3 c ⟨r.val / 2, by omega⟩ l) = A)
    (hB : ∀ (g : Fin 16) (s : Fin 8), (⟨r.val / 2, by omega⟩ : Fin 128) = ⟨g.val * 8 + s.val, by omega⟩ →
      k1_pay26 (F := Ideal) (k1_pay2 x1)
      (k1_pay21 (k1_pay4 x3) (k1_pay7 x) (k1_pay8 x) (k1_pay9 x) (k1_pay10 x) (k1_pay11 x) (k1_pay12 x))
      (k1_pay23 (k1_pay1 x0) (k1_pay4 x3) (k1_pay9 x) (k1_pay10 x) (k1_pay11 x) (k1_pay12 x))
      (k1_pay24 (k1_pay4 x3) (k1_pay9 x) (k1_pay10 x) (k1_pay11 x) (k1_pay12 x)) (ix4 c g s l) = B) :
    k1_pay30 (F := Ideal)
      (k1_pay25 (k1_pay22 (k1_pay1 x0) (k1_pay2 x1) (k1_pay4 x3) (k1_pay7 x) (k1_pay8 x) (k1_pay9 x) (k1_pay10 x)
        (k1_pay11 x) (k1_pay12 x)))
      (k1_pay26 (k1_pay2 x1)
        (k1_pay21 (k1_pay4 x3) (k1_pay7 x) (k1_pay8 x) (k1_pay9 x) (k1_pay10 x) (k1_pay11 x) (k1_pay12 x))
        (k1_pay23 (k1_pay1 x0) (k1_pay4 x3) (k1_pay9 x) (k1_pay10 x) (k1_pay11 x) (k1_pay12 x))
        (k1_pay24 (k1_pay4 x3) (k1_pay9 x) (k1_pay10 x) (k1_pay11 x) (k1_pay12 x)))
      k1_pay27 k1_pay28 k1_pay29 1#32 (ix4 0 c r l)
      = if r.val % 2 = 1 then B else A := by
  rw [shuffle_at]
  split_ifs
  · exact hB _ _ (Fin.ext (by dsimp only; omega))
  · pointwise [k1_pay25]
    have e : (⟨r.val / 16 * 8 + r.val % 16 / 2, by omega⟩ : Fin 128) = ⟨r.val / 2, by omega⟩ :=
      Fin.ext (by dsimp only; omega)
    rw [e]
    exact hA

end Cert.KernelIdeal.Whiten

end
-- ==== Proof.Blocks.lean ====
module

public import proofs.«01_k».proof.Proof.Gen.KernelIdeal.Frame
public import proofs.«01_k».proof.Proof.Row
public import Idealize.ShloMosaic.Lib.Pipeline.ValueKit
public import Idealize.ShloMosaic.Lib.Pointwise

@[expose] public section

set_option maxRecDepth 16384

noncomputable section

namespace Cert.KernelIdeal.Whiten

open Cert.KernelIdeal Cert.KernelIdeal.Gen Idealize.ShloMosaic Idealize.ShloMosaic.TcCoe Idealize.SL.Sem
open Idealize.ShloMosaic.Pipeline (Dat)

/-- Two consecutive images of an input, the block of one grid point of the first kernel. -/
def pair (x : FVec Ideal S32x64x128x128 .f32) (t : Fin 16) : FVec Ideal S2x64x128x128 .f32 :=
  fun i => x (ix4 ⟨t.val * 2 + (i 0).val, by have h : (i 0).val < 2 := (i 0).isLt; omega⟩ (i 1) (i 2) (i 3))

/-- The array of partials the first kernel leaves. -/
def partials (x y : FVec Ideal S32x64x128x128 .f32) : FVec Ideal S16x64x128 .f32 :=
  fun i => k0_pay1 (F := Ideal) (pair x (i 0)) (pair y (i 0)) (ix3 0 (i 1) (i 2))

/-- One image of an input, the block of one grid point of the second kernel. -/
def image (x : FVec Ideal S32x64x128x128 .f32) (t : Fin 32) : FVec Ideal S1x64x128x128 .f32 :=
  fun i => x (ix4 t (i 1) (i 2) (i 3))

/-- The array the second kernel leaves, from the inputs, the partials and the packed weights. -/
def applied (x y : FVec Ideal S32x64x128x128 .f32) (s : FVec Ideal S16x64x128 .f32)
    (g : FVec Ideal S64x128 .f32) : FVec Ideal S32x64x256x128 .f32 :=
  fun i => k1_pay30 (F := Ideal)
      (k1_pay25 (k1_pay22 (k1_pay1 (image x (i 0))) (k1_pay2 (image y (i 0))) (k1_pay4 g) (k1_pay7 s) (k1_pay8 s)
        (k1_pay9 s) (k1_pay10 s) (k1_pay11 s) (k1_pay12 s)))
      (k1_pay26 (k1_pay2 (image y (i 0)))
        (k1_pay21 (k1_pay4 g) (k1_pay7 s) (k1_pay8 s) (k1_pay9 s) (k1_pay10 s) (k1_pay11 s) (k1_pay12 s))
        (k1_pay23 (k1_pay1 (image x (i 0))) (k1_pay4 g) (k1_pay9 s) (k1_pay10 s) (k1_pay11 s) (k1_pay12 s))
        (k1_pay24 (k1_pay4 g) (k1_pay9 s) (k1_pay10 s) (k1_pay11 s) (k1_pay12 s)))
      k1_pay27 k1_pay28 k1_pay29 1#32 (ix4 0 (i 1) (i 2) (i 3))

variable (V : (c : Dev nD) → (b : Ref sig .tc) → Buf (Elt Ideal) ((c : Thread nD τ).loc b))

/-- The block indices of the first kernel's windows at each of its 16 steps. -/
theorem index0 : ∀ t : Fin cfg0.N, win0_0.index t = ![t.val, 0, 0, 0] ∧ win0_1.index t = ![t.val, 0, 0, 0]
    ∧ win0_2.index t = ![t.val, 0, 0] ∧ t.val < 16 :=
  (by decide +kernel : ∀ t : Fin grid0.N, _)

/-- The block indices of the second kernel's windows at each of its 32 steps. -/
theorem index1 : ∀ t : Fin cfg1.N, win1_0.index t = ![t.val, 0, 0, 0] ∧ win1_1.index t = ![t.val, 0, 0, 0]
    ∧ win1_2.index t = ![0, 0, 0] ∧ win1_3.index t = ![0, 0] ∧ win1_4.index t = ![t.val, 0, 0, 0] ∧ t.val < 32 :=
  (by decide +kernel : ∀ t : Fin grid1.N, _)

/-- The first kernel's block of real parts is a pair of images. -/
theorem block0_x (c : Dev nD) (t : Fin cfg0.N) :
    (iblk0 V c 0 t : FVec Ideal S2x64x128x128 .f32) = pair (V c main_arg0) ⟨t.val, (index0 t).2.2.2⟩ := by
  funext j
  show _ = V c main_arg0 (ix4 _ _ _ _)
  blk_ext [iblk0, index0 t]

/-- The first kernel's block of imaginary parts is a pair of images. -/
theorem block0_y (c : Dev nD) (t : Fin cfg0.N) :
    (iblk0 V c 1 t : FVec Ideal S2x64x128x128 .f32) = pair (V c main_arg1) ⟨t.val, (index0 t).2.2.2⟩ := by
  funext j
  show _ = V c main_arg1 (ix4 _ _ _ _)
  blk_ext [iblk0, index0 t]

/-- The first kernel's result array. -/
theorem final0 (c : Dev nD) : (dat0 V c).arrAt 2 cfg0.N
    = partials (V c main_arg0) (V c main_arg1) := by
  refine (dat0 V c).arrAt_eq_of_covers 2 _ (by decide +kernel) fun t _ y => ?_
  blk_simp
  rw [after0_2]; frame_out
  have e : ((View.whole main_v0).slice (win0_2.rect t)).emb y
      = (ix3 ⟨t.val, (index0 t).2.2.2⟩ (y 1) (y 2) : S16x64x128.Idx) := by
    blk_ext [index0 t]
  have e' : y = (ix3 0 (y 1) (y 2) : S1x64x128.Idx) := by
    blk_ext [index0 t]
  rw [e]
  refine (congrArg (k0_pay1 (iblk0 V c 0 t) (iblk0 V c 1 t)) e').trans ?_
  exact congrArg₂ (fun a b => k0_pay1 (F := Ideal) a b (ix3 0 (y 1) (y 2))) (block0_x V c t) (block0_y V c t)

/-- The second kernel's block of real parts is one image. -/
theorem block1_x (c : Dev nD) (t : Fin cfg1.N) :
    (iblk1 V c 0 t : FVec Ideal S1x64x128x128 .f32) = image (V c main_arg0) ⟨t.val, (index1 t).2.2.2.2.2⟩ := by
  funext j
  show _ = V c main_arg0 (ix4 _ _ _ _)
  blk_ext [iblk1, index1 t]

/-- The second kernel's block of imaginary parts is one image. -/
theorem block1_y (c : Dev nD) (t : Fin cfg1.N) :
    (iblk1 V c 1 t : FVec Ideal S1x64x128x128 .f32) = image (V c main_arg1) ⟨t.val, (index1 t).2.2.2.2.2⟩ := by
  funext j
  show _ = V c main_arg1 (ix4 _ _ _ _)
  blk_ext [iblk1, index1 t]

/-- The second kernel reads the whole array of partials at each step. -/
theorem block1_s (c : Dev nD) (t : Fin cfg1.N) :
    (iblk1 V c 2 t : FVec Ideal S16x64x128 .f32) = V c main_v0 := by
  funext j
  blk_ext [iblk1, index1 t]

/-- The second kernel reads the whole array of weights and shifts at each step. -/
theorem block1_g (c : Dev nD) (t : Fin cfg1.N) :
    (iblk1 V c 3 t : FVec Ideal S64x128 .f32) = V c main_v3 := by
  funext j
  blk_ext [iblk1, index1 t]

/-- The second kernel's result array. -/
theorem final1 (c : Dev nD) : (dat1 V c).arrAt 4 cfg1.N
    = applied (V c main_arg0) (V c main_arg1) (V c main_v0) (V c main_v3) := by
  refine (dat1 V c).arrAt_eq_of_covers 4 _ (by decide +kernel) fun t _ y => ?_
  blk_simp
  rw [after1_4]
  unfold_out out1_4
  frame_out
  have e : ((View.whole main_v4).slice (win1_4.rect t)).emb y
      = (ix4 ⟨t.val, (index1 t).2.2.2.2.2⟩ (y 1) (y 2) (y 3) : S32x64x256x128.Idx) := by
    blk_ext [index1 t]
  have e' : y = (ix4 0 (y 1) (y 2) (y 3) : S1x64x256x128.Idx) := by
    blk_ext [index1 t]
  rw [e, block1_x, block1_y, block1_s, block1_g]
  exact congrArg _ e'

end Cert.KernelIdeal.Whiten

end
-- ==== Proof.Around.lean ====
module

public import proofs.«01_k».proof.Proof.Blocks
public import Idealize.ShloMosaic.Lib.Claim

@[expose] public section

set_option maxRecDepth 16384

noncomputable section

namespace Cert.KernelIdeal.Whiten

open Cert.KernelIdeal Cert.KernelIdeal.Gen Idealize.ShloMosaic Idealize.ShloMosaic.TcCoe Idealize.SL.Sem
open Idealize.ShloMosaic.Pipeline (Dat)

/-- The weights and the shifts packed into one array. -/
def packed (g : FVec Ideal S64x2x2 .f32) (b : FVec Ideal S64x2 .f32) : FVec Ideal S64x6 .f32 :=
  concatenate S64x6 1 [⟨S64x4, shapeCast S64x4 g shapeCasts_S64x2x2_S64x4⟩, ⟨S64x2, b⟩]
    concatenates_S64x4_S64x2_S64x6_d1

variable (V : Valuation τ sig (Elt Ideal))

/-- The host code before the padding packs the weights and the shifts. -/
theorem after_pack : StableHlo.after (hostOps1 (F := Ideal)) V (Proc.devRef .tc main_v2)
    = packed (V (Proc.devRef .tc main_arg2)) (V (Proc.devRef .tc main_arg3)) := by
  entry_read
  rfl

/-- The host code pads the packed weights to 128 columns. -/
theorem after_pad : StableHlo.after (hostOps1_1 (F := Ideal)) V (Proc.devRef .tc main_v3)
    = pad S64x128 ![0, 0] ![0, 122] ![0, 0] (V (Proc.devRef .tc main_v2)) (sitofp (F := Ideal) .f32 (V (Proc.devRef .tc main_c) : IVec S_ 32))
      pads_S64x6_S64x128_000_01220 h_S_ := by
  entry_read
  rfl

/-- The host code after the second kernel splits the rows into pairs and moves the pair to the last axis. -/
theorem after_out : StableHlo.after (hostOps2 (F := Ideal)) V (Proc.devRef .tc main_v6)
    = transpose S32x64x128x128x2 [0, 1, 2, 4, 3]
        (shapeCast S32x64x128x2x128 (V (Proc.devRef .tc main_v4)) shapeCasts_S32x64x256x128_S32x64x128x2x128)
        transposes_S32x64x128x2x128_S32x64x128x128x2_0_1_2_4_3 := by
  entry_read
  rfl

variable (m : (ℓ : Loc nD τ sig) → Buf (Elt Ideal) ℓ) (ρ : Dev nD → PrngReg) (c : Dev nD)

/-- The columns below six of the padded array are the array's. -/
theorem pad_at (x : FVec Ideal S64x6 .f32) (v : FVec Ideal S_ .f32) (k : Fin 64) (j : Fin 6) :
    pad S64x128 ![0, 0] ![0, 122] ![0, 0] x v pads_S64x6_S64x128_000_01220 h_S_ (ix2 k ⟨j.val, by omega⟩)
      = x (ix2 k j) := by
  pointwise

/-- The partials at the second kernel's entry. -/
theorem entry_partials : V3 m ρ c main_v0
    = partials (m ((c : Thread nD τ).loc main_arg0)) (m ((c : Thread nD τ).loc main_arg1)) :=
  (W3_of m ρ c main_v0 (by decide +kernel)).trans <| (W2_of m ρ c main_v0 (by decide +kernel)).trans <|
    (W1_arr m ρ c 2).trans (final0 (V0 m ρ) c)

/-- The packed weights at the second kernel's entry. -/
theorem entry_weights : W2 m ρ c (Proc.devRef .tc main_v2)
    = packed (m ((c : Thread nD τ).loc main_arg2)) (m ((c : Thread nD τ).loc main_arg3)) := by
  refine (after_pack _).trans ?_
  rw [W1_args m ρ c main_arg2 (by decide +kernel), W1_args m ρ c main_arg3 (by decide +kernel)]

/-- The padded weights at the second kernel's entry, in the columns the kernel reads. -/
theorem entry_padded (k : Fin 64) (j : Fin 6) : (V3 m ρ c main_v3 : FVec Ideal S64x128 .f32) (ix2 k ⟨j.val, by omega⟩)
    = packed (m ((c : Thread nD τ).loc main_arg2)) (m ((c : Thread nD τ).loc main_arg3)) (ix2 k j) := by
  refine (congrFun (after_pad _) _).trans ?_
  rw [entry_weights]
  exact pad_at _ _ k j

/-- The six columns of the packed array: the four weights of a channel, then its two shifts. -/
theorem packed_at (g : FVec Ideal S64x2x2 .f32) (b : FVec Ideal S64x2 .f32) (k : Fin 64) : packed g b (ix2 k 0) = g (ix3 k 0 0) ∧ packed g b (ix2 k 1) = g (ix3 k 0 1) ∧ packed g b (ix2 k 2) = g (ix3 k 1 0)
    ∧ packed g b (ix2 k 3) = g (ix3 k 1 1) ∧ packed g b (ix2 k 4) = b (ix2 k 0) ∧ packed g b (ix2 k 5) = b (ix2 k 1) := by
  refine ⟨?_, ?_, ?_, ?_, ?_, ?_⟩ <;> pointwise [packed]

/-- The second kernel's array after the run. -/
theorem exit_applied : W4 m ρ c (Proc.devRef .tc main_v4)
    = applied (m ((c : Thread nD τ).loc main_arg0)) (m ((c : Thread nD τ).loc main_arg1))
        (partials (m ((c : Thread nD τ).loc main_arg0)) (m ((c : Thread nD τ).loc main_arg1)))
        (V3 m ρ c main_v3) := by
  refine (W4_arr m ρ c 4).trans ((final1 (V3 m ρ) c).trans ?_)
  rw [entry_partials, show V3 m ρ c main_arg0 = _ from W3_args m ρ c main_arg0 (by decide +kernel),
    show V3 m ρ c main_arg1 = _ from W3_args m ρ c main_arg1 (by decide +kernel)]

/-- Row `2 h + p` of the second kernel's array is component `p` of row `h` of the result. -/
theorem out_at (x : FVec Ideal S32x64x256x128 .f32) (b : Fin 32) (k : Fin 64) (h w : Fin 128) (p : Fin 2) :
    transpose S32x64x128x128x2 [0, 1, 2, 4, 3]
        (shapeCast S32x64x128x2x128 x shapeCasts_S32x64x256x128_S32x64x128x2x128)
        transposes_S32x64x128x2x128_S32x64x128x128x2_0_1_2_4_3 (ix5 b k h w p)
      = x (ix4 b k ⟨h.val * 2 + p.val, by omega⟩ w) := by
  pointwise

/-- The result at an index: an entry of the second kernel's array. -/
theorem result_at (b : Fin 32) (k : Fin 64) (h w : Fin 128) (p : Fin 2) :
    (W5 m ρ c (Proc.devRef .tc main_v6) : FVec Ideal S32x64x128x128x2 .f32) (ix5 b k h w p)
      = applied (m ((c : Thread nD τ).loc main_arg0)) (m ((c : Thread nD τ).loc main_arg1))
        (partials (m ((c : Thread nD τ).loc main_arg0)) (m ((c : Thread nD τ).loc main_arg1)))
        (V3 m ρ c main_v3) (ix4 b k ⟨h.val * 2 + p.val, by omega⟩ w) :=
  (congrFun (after_out _) _).trans ((out_at _ b k h w p).trans (congrFun (exit_applied m ρ c) _))

end Cert.KernelIdeal.Whiten

end
-- ==== Proof.Stats.lean ====
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Whiten

open Cert.KernelIdeal Cert.KernelIdeal.Gen Idealize.ShloMosaic Idealize.ShloMosaic.TcCoe Idealize.SL.Sem
open Idealize.ShloMosaic.Pipeline (Dat)

section

variable (x0 x1 : FVec Ideal S2x64x128x128 .f32) (c : Fin 64)

/-- Lane 0 of a partial: the sum of the first array over the block. -/
theorem lane_u : k0_pay1 (F := Ideal) x0 x1 (ix3 0 c 0) = ∑ w, ∑ b, ∑ h, x0 (ix4 b c h w) := by
  pointwise [k0_pay1]

/-- Lane 1 of a partial: the sum of the second array over the block. -/
theorem lane_v : k0_pay1 (F := Ideal) x0 x1 (ix3 0 c 1) = ∑ w, ∑ b, ∑ h, x1 (ix4 b c h w) := by
  pointwise [k0_pay1]

/-- Lane 2 of a partial: the sum of the first array's squares over the block. -/
theorem lane_uu : k0_pay1 (F := Ideal) x0 x1 (ix3 0 c 2) = ∑ w, ∑ b, ∑ h, x0 (ix4 b c h w) * x0 (ix4 b c h w) := by
  pointwise [k0_pay1]

/-- Lane 3 of a partial: the sum of the second array's squares over the block. -/
theorem lane_vv : k0_pay1 (F := Ideal) x0 x1 (ix3 0 c 3) = ∑ w, ∑ b, ∑ h, x1 (ix4 b c h w) * x1 (ix4 b c h w) := by
  pointwise [k0_pay1]

/-- Lane 4 of a partial: the sum of the two arrays' products over the block. -/
theorem lane_uv : k0_pay1 (F := Ideal) x0 x1 (ix3 0 c 4) = ∑ w, ∑ b, ∑ h, x0 (ix4 b c h w) * x1 (ix4 b c h w) := by
  pointwise [k0_pay1]

end

end Cert.KernelIdeal.Whiten

end
-- ==== Proof.Totals.lean ====
module

public import proofs.«01_k».proof.Proof.Around
public import proofs.«01_k».proof.Proof.Stats

@[expose] public section

set_option maxRecDepth 16384

noncomputable section

namespace Cert.KernelIdeal.Whiten

open Cert.KernelIdeal Cert.KernelIdeal.Gen Idealize.ShloMosaic Idealize.ShloMosaic.TcCoe Idealize.SL.Sem
open _root_.Whiten

/-- A function of image, row and column, read at the number of a sample. -/
def flat {M : Type} (f : Fin 32 → Fin 128 → Fin 128 → M) (k : Fin 524288) : M :=
  f ⟨k.val / 16384, by omega⟩ ⟨k.val / 128 % 128, by omega⟩ ⟨k.val % 128, by omega⟩

/-- The sum over the samples is the sum over the pairs of images, columns, images of the pair and rows. -/
theorem sum_flat {M : Type} [AddCommMonoid M] (f : Fin 32 → Fin 128 → Fin 128 → M) :
    ∑ k, flat f k = ∑ t : Fin 16, ∑ w : Fin 128, ∑ b : Fin 2, ∑ h : Fin 128, f ⟨t.val * 2 + b.val, by omega⟩ h w := by
  refine (Fin.sum_univ_tiles 16 32768 rfl (flat f)).trans (Finset.sum_congr rfl fun t _ => ?_)
  refine Eq.trans ?_ Finset.sum_comm
  refine (Fin.sum_univ_tiles 2 16384 rfl _).trans (Finset.sum_congr rfl fun b _ => ?_)
  refine Eq.trans ?_ Finset.sum_comm
  refine (Fin.sum_univ_tiles 128 128 rfl _).trans (Finset.sum_congr rfl fun h _ =>
    Finset.sum_congr rfl fun w _ => ?_)
  exact congr (congr (congrArg f (Fin.ext (by dsimp only; omega))) (Fin.ext (by dsimp only; omega)))
    (Fin.ext (by dsimp only; omega))

section

variable (x y : FVec Ideal S32x64x128x128 .f32) (c : Fin 64)

/-- The samples of a channel. -/
def samples : Fin 524288 → EReal := flat fun b h w => x (ix4 b c h w)

/-- The sample of a pixel: the entry of its image that the second kernel reads for row `2 h + p` of its result. -/
theorem sample_at (b : Fin 32) (h w : Fin 128) (p : Fin 2) :
    image x b (ix4 0 c ⟨(h.val * 2 + p.val) / 2, by omega⟩ w)
      = samples x c ⟨b.val * 16384 + h.val * 128 + w.val, by omega⟩ := by
  show x (ix4 b c ⟨(h.val * 2 + p.val) / 2, by omega⟩ w) = _
  exact congrArg x (congr (congr (congrArg (fun a => ix4 a c) (Fin.ext (by dsimp only; omega)))
    (Fin.ext (by dsimp only; omega))) (Fin.ext (by dsimp only; omega)))

/-- The partials of a channel add up to the five sums over its samples. -/
theorem sums : Sums (samples x c) (samples y c) (partials x y) c where
  s0 := (Finset.sum_congr rfl fun t _ => lane_u _ _ c).trans (sum_flat fun b h w => x (ix4 b c h w)).symm
  s1 := (Finset.sum_congr rfl fun t _ => lane_v _ _ c).trans (sum_flat fun b h w => y (ix4 b c h w)).symm
  s2 := (Finset.sum_congr rfl fun t _ => lane_uu _ _ c).trans
    (sum_flat fun b h w => x (ix4 b c h w) * x (ix4 b c h w)).symm
  s3 := (Finset.sum_congr rfl fun t _ => lane_vv _ _ c).trans
    (sum_flat fun b h w => y (ix4 b c h w) * y (ix4 b c h w)).symm
  s4 := (Finset.sum_congr rfl fun t _ => lane_uv _ _ c).trans
    (sum_flat fun b h w => x (ix4 b c h w) * y (ix4 b c h w)).symm

/-- Row `2 h + p` holds component `p`. -/
theorem row_of (h : Fin 128) (p : Fin 2) {A B : EReal} (f : Fin 2 → EReal) (h0 : A = f 0) (h1 : B = f 1) :
    (if (h.val * 2 + p.val) % 2 = 1 then B else A) = f p := by
  have hp : p = 0 ∨ p = 1 := by omega
  rcases hp with rfl | rfl
  · exact (if_neg (by show ¬ (h.val * 2 + 0) % 2 = 1; omega)).trans h0
  · exact (if_pos (by show (h.val * 2 + 1) % 2 = 1; omega)).trans h1

/-- The kernel's result at an index of a channel of reals: the row of weights applied to the whitened sample, and
the shift. -/
theorem value_at {u v : Fin 524288 → ℝ} (hx : ∀ k, samples x c k = (u k : EReal)) (hy : ∀ k, samples y c k = (v k : EReal))
    {g : FVec Ideal S64x2x2 .f32} {e : FVec Ideal S64x2 .f32} {s : FVec Ideal S64x128 .f32}
    (hs : ∀ (k : Fin 64) (j : Fin 6), s (ix2 k ⟨j.val, by omega⟩) = packed g e (ix2 k j))
    {G : S64x2x2.Idx → ℝ} (hg : ∀ i, g i = (G i : EReal)) (b : Fin 32) (h w : Fin 128) (p : Fin 2) :
    applied x y (partials x y) s (ix4 b c ⟨h.val * 2 + p.val, by omega⟩ w)
      = (whitened u v (G (ix3 c p 0)) (G (ix3 c p 1)) ⟨b.val * 16384 + h.val * 128 + w.val, by omega⟩ : EReal)
        + e (ix2 c p) := by
  have q := packed_at g e c
  have hu := (sample_at x c b h w p).trans (hx _)
  have hv := (sample_at y c b h w p).trans (hy _)
  have hn := Fintype.card_fin 524288
  refine (block_at ⟨h.val * 2 + p.val, by omega⟩ w
    (first_at (sums x y c) hn hx hy hu hv ((hs c 0).trans (q.1.trans (hg _))) ((hs c 1).trans (q.2.1.trans (hg _))))
    (second_at (sums x y c) hn hx hy hu hv ((hs c 2).trans (q.2.2.1.trans (hg _)))
      ((hs c 3).trans (q.2.2.2.1.trans (hg _))))).trans ?_
  exact row_of h p (fun p => (whitened u v (G (ix3 c p 0)) (G (ix3 c p 1)) _ : EReal) + e (ix2 c p))
    (congrArg _ ((hs c 4).trans q.2.2.2.2.1)) (congrArg _ ((hs c 5).trans q.2.2.2.2.2))

/-- The kernel's result at an index of a channel with an infinite part: the shift. -/
theorem shift_at (hi : (∃ k, IsInf (samples x c k)) ∨ ∃ k, IsInf (samples y c k))
    {g : FVec Ideal S64x2x2 .f32} {e : FVec Ideal S64x2 .f32} {s : FVec Ideal S64x128 .f32}
    (hs : ∀ (k : Fin 64) (j : Fin 6), s (ix2 k ⟨j.val, by omega⟩) = packed g e (ix2 k j))
    (b : Fin 32) (h w : Fin 128) (p : Fin 2) :
    applied x y (partials x y) s (ix4 b c ⟨h.val * 2 + p.val, by omega⟩ w) = e (ix2 c p) := by
  have q := packed_at g e c
  have hn := Fintype.card_fin 524288
  refine (block_at ⟨h.val * 2 + p.val, by omega⟩ w (first_inf (sums x y c) hn hi _ _ _ _ _)
    fun a r _ => second_inf (sums x y c) hn hi _ _ _ a r w).trans ?_
  exact row_of h p (fun p => e (ix2 c p)) ((hs c 4).trans q.2.2.2.2.1) ((hs c 5).trans q.2.2.2.2.2)

end

end Cert.KernelIdeal.Whiten

end
-- ==== Proof.Plain.lean ====
module

public import proofs.«01_k».proof.Proof.Gen.ReferenceIdeal.Run
public import proofs.«01_k».proof.Proof.Infinite
public import Idealize.ShloMosaic.Lib.Pointwise

@[expose] public section

set_option maxRecDepth 16384

noncomputable section

namespace Cert.ReferenceIdeal.Whiten

open Cert.ReferenceIdeal Cert.ReferenceIdeal.Gen Cert.ReferenceIdeal.Value
open Idealize.ShloMosaic Idealize.ShloMosaic.TcCoe Idealize.SL.Sem Idealize.ShloMosaic.StableHlo
open _root_.Whiten

variable (V : Valuation τ sig (Elt Ideal))

/-- The reciprocal square roots of the regularized eigenvalues, one pair per channel. -/
def scales : FVec Ideal S64x2 .f32 :=
  Host.divf (broadcastInDim S64x2 ![] bcast_S_S64x2 (constant S_ .f32 0x3F800000#32)) (Host.sqrt (addf (concatenate S64x2 1 [⟨S64x1, (broadcastInDim S64x1 ![0] bcast_S64_S64x1_0 (subf (res_main_v17 V) (mulf (res_main_v41 V) (res_main_v19 V))))⟩, ⟨S64x1, (broadcastInDim S64x1 ![0] bcast_S64_S64x1_0 (addf (res_main_v21 V) (mulf (res_main_v41 V) (res_main_v19 V))))⟩] concatenates_S64x1_S64x1_S64x2_d1) (broadcastInDim S64x2 ![] bcast_S_S64x2 (constant S_ .f32 0x3727C5AC#32))))

/-- The inverse square roots of the regularized covariance matrices, from the rotations and the
reciprocal square roots. -/
def whitening (q : FVec Ideal S64x2x2 .f32) (s : FVec Ideal S64x2 .f32) : FVec Ideal S64x2x2 .f32 :=
  Host.dotGeneral dot_S64x2x2_S64x2x2_S64x2x2_2_2_1_1_0_0 none (mulf q (broadcastInDim S64x2x2 ![0, 1, 2] bcast_S64x1x2_S64x2x2_0_1_2 (broadcastInDim S64x1x2 ![0, 2] bcast_S64x2_S64x1x2_0_2 s))) q

/-- The reference's result, from the weights, the whitening matrices, the centered samples and the shifts. -/
def result (g a : FVec Ideal S64x2x2 .f32) (x : FVec Ideal S64x2x524288 .f32) (b : FVec Ideal S64x2 .f32) :
    FVec Ideal S32x64x128x128x2 .f32 :=
  transpose S32x64x128x128x2 [2, 0, 3, 4, 1] (shapeCast _ (addf (Host.dotGeneral dot_S64x2x2_S64x2x524288_S64x2x524288_2_1_1_2_0_0 none g (Host.dotGeneral dot_S64x2x2_S64x2x524288_S64x2x524288_2_1_1_2_0_0 none a x : FVec Ideal S64x2x524288 .f32) : FVec Ideal S64x2x524288 .f32) (broadcastInDim S64x2x524288 ![0, 1, 2] bcast_S64x2x1_S64x2x524288_0_1_2 (broadcastInDim S64x2x1 ![0, 1] bcast_S64x2_S64x2x1_0_1 b))) shapeCasts_S64x2x524288_S64x2x32x128x128) transposes_S64x2x32x128x128_S32x64x128x128x2_2_0_3_4_1

/-- An entry of the whitening matrix: the sum over the two eigenvectors. -/
theorem whitening_at (q : FVec Ideal S64x2x2 .f32) (s : FVec Ideal S64x2 .f32) (c : Fin 64) (i j : Fin 2) :
    whitening q s (ix3 c i j) = q (ix3 c i 0) * s (ix2 c 0) * q (ix3 c j 0)
      + q (ix3 c i 1) * s (ix2 c 1) * q (ix3 c j 1) := by
  pointwise [whitening]
  rw [Fin.sum_univ_two]

/-- An entry of the result: the weights applied to the whitened sample of the pixel, and the shift. -/
theorem result_at (g a : FVec Ideal S64x2x2 .f32) (x : FVec Ideal S64x2x524288 .f32) (e : FVec Ideal S64x2 .f32)
    (b : Fin 32) (c : Fin 64) (h w : Fin 128) (p : Fin 2) :
    result g a x e (ix5 b c h w p)
      = g (ix3 c p 0) * (a (ix3 c 0 0) * x (ix3 c 0 ⟨b.val * 16384 + h.val * 128 + w.val, by omega⟩)
          + a (ix3 c 0 1) * x (ix3 c 1 ⟨b.val * 16384 + h.val * 128 + w.val, by omega⟩))
        + g (ix3 c p 1) * (a (ix3 c 1 0) * x (ix3 c 0 ⟨b.val * 16384 + h.val * 128 + w.val, by omega⟩)
          + a (ix3 c 1 1) * x (ix3 c 1 ⟨b.val * 16384 + h.val * 128 + w.val, by omega⟩))
        + e (ix2 c p) := by
  pointwise [result]
  simp only [Fin.sum_univ_two]

/-- The first component of a sample is the real part of its pixel. -/
theorem x_at (c : Fin 64) (k : Fin 524288) :
    res_main_v6 V (ix3 c 0 k) = (V (Proc.devRef .tc main_arg0) : FVec Ideal S32x64x128x128 .f32)
        (ix4 ⟨k.val / 16384, by omega⟩ c ⟨k.val / 128 % 128, by omega⟩ ⟨k.val % 128, by omega⟩) := by
  pointwise [res_main_v6]

/-- The second component of a sample is the imaginary part of its pixel. -/
theorem y_at (c : Fin 64) (k : Fin 524288) :
    res_main_v6 V (ix3 c 1 k) = (V (Proc.devRef .tc main_arg1) : FVec Ideal S32x64x128x128 .f32)
        (ix4 ⟨k.val / 16384, by omega⟩ c ⟨k.val / 128 % 128, by omega⟩ ⟨k.val % 128, by omega⟩) := by
  pointwise [res_main_v6]

/-- First component of the second eigenvector: the sine. -/
theorem q01_eq (c : Fin 64) : res_main_v65 V (ix3 c 0 1) = res_main_v48 V (ix1 c) := by pointwise [res_main_v65]

/-- Second component of the first eigenvector: the sine, negated. -/
theorem q10_eq (c : Fin 64) : res_main_v65 V (ix3 c 1 0) = -(show EReal from res_main_v48 V (ix1 c)) := by pointwise [res_main_v65]

section

variable {u v : Fin 524288 → ℝ} {c : Fin 64}
  (hu : ∀ k, res_main_v6 V (ix3 c 0 k) = (u k : EReal)) (hv : ∀ k, res_main_v6 V (ix3 c 1 k) = (v k : EReal))

include hu in
/-- The centered real part of a sample. -/
theorem centered_u (k : Fin 524288) : res_main_v12 V (ix3 c 0 k) = ((u k - mean u : ℝ) : EReal) := by
  pointwise [res_main_v12]
  simp only [hu, sum_real, bits_n]
  rw [div_real _ (by norm_num), ← EReal.coe_sub]
  rfl

include hv in
/-- The centered imaginary part of a sample. -/
theorem centered_v (k : Fin 524288) : res_main_v12 V (ix3 c 1 k) = ((v k - mean v : ℝ) : EReal) := by
  pointwise [res_main_v12]
  simp only [hv, sum_real, bits_n]
  rw [div_real _ (by norm_num), ← EReal.coe_sub]
  rfl

include hu in
/-- The variance of the real parts. -/
theorem a_at : res_main_v17 V (ix1 c) = (cov u u : EReal) := by
  pointwise [res_main_v17, res_main_v15]
  simp only [centered_u V hu, ← EReal.coe_mul, sum_real, bits_nm1]
  rw [div_real _ (by norm_num)]
  rfl

include hu hv in
/-- The covariance of the real and the imaginary parts. -/
theorem b_at : res_main_v19 V (ix1 c) = (cov u v : EReal) := by
  pointwise [res_main_v19, res_main_v15]
  simp only [centered_u V hu, centered_v V hv, ← EReal.coe_mul, sum_real, bits_nm1]
  rw [div_real _ (by norm_num)]
  rfl

include hv in
/-- The variance of the imaginary parts. -/
theorem d_at : res_main_v21 V (ix1 c) = (cov v v : EReal) := by
  pointwise [res_main_v21, res_main_v15]
  simp only [centered_v V hv, ← EReal.coe_mul, sum_real, bits_nm1]
  rw [div_real _ (by norm_num)]
  rfl

include hu hv

/-- The cotangent of twice the rotation's angle, where the covariance is not zero. -/
theorem tau_at (hb : cov u v ≠ 0) :
    res_main_v25 V (ix1 c) = (((cov v v - cov u u) / (2 * cov u v) : ℝ) : EReal) := by
  pointwise [res_main_v25]
  rw [a_at V hu, b_at V hu hv, d_at V hv, bits_two, ← EReal.coe_mul, ← EReal.coe_sub,
    div_real _ (mul_ne_zero two_ne_zero hb)]

/-- The square root in the tangent's denominator. -/
theorem hyp_at (hb : cov u v ≠ 0) : res_main_v29 V (ix1 c)
    = ((√(1 + (cov v v - cov u u) / (2 * cov u v) * ((cov v v - cov u u) / (2 * cov u v))) : ℝ) : EReal) := by
  pointwise [res_main_v29]
  rw [tau_at V hu hv hb, ← EReal.coe_mul, ← EReal.coe_one, ← EReal.coe_add,
    sqrt_real (by nlinarith [mul_self_nonneg ((cov v v - cov u u) / (2 * cov u v))])]

/-- The tangent of the rotation. -/
theorem tan_at : res_main_v41 V (ix1 c) = (tangent (cov u u) (cov u v) (cov v v) : EReal) := by
  pointwise [res_main_v41]
  rw [b_at V hu hv]
  by_cases hb : cov u v = 0
  · rw [if_pos (by rw [hb, EReal.coe_zero])]
    show Ideal.ofBits .f32 0x00000000#32 = _
    rw [Ideal.ofBits_zero_f32, tangent, if_pos hb, EReal.coe_zero]
  · rw [if_neg (by rwa [EReal.coe_eq_zero]), tau_at V hu hv hb, hyp_at V hu hv hb, tangent, if_neg hb]
    by_cases ht : 0 ≤ (cov v v - cov u u) / (2 * cov u v)
    · rw [if_pos (by rwa [EReal.coe_nonneg]), if_pos ht, ← EReal.coe_add, div_one_real (den_pos _ ht).ne']
    · rw [if_neg (by rwa [EReal.coe_nonneg]), if_neg ht, ← EReal.coe_sub, div_one_real (den_neg _ ht).ne]

/-- The cosine of the rotation. -/
theorem cos_at : res_main_v47 V (ix1 c) = (cosine (tangent (cov u u) (cov u v) (cov v v)) : EReal) := by
  have h (t : ℝ) : 0 < 1 + t * t := by nlinarith [mul_self_nonneg t]
  pointwise [res_main_v47]
  rw [tan_at V hu hv, ← EReal.coe_mul, ← EReal.coe_one, ← EReal.coe_add, sqrt_real (h _).le, EReal.coe_one,
    div_one_real (Real.sqrt_pos.2 (h _)).ne']
  rfl

/-- The sine of the rotation. -/
theorem sin_at : res_main_v48 V (ix1 c) = (sine (tangent (cov u u) (cov u v) (cov v v)) : EReal) := by
  pointwise [res_main_v48]
  rw [tan_at V hu hv, cos_at V hu hv, ← EReal.coe_mul]
  rfl

/-- The reciprocal square root of the first regularized eigenvalue. -/
theorem scale0_at : scales V (ix2 c 0) = (rsq0 (cov u u) (cov u v) (cov v v) eps : EReal) := by
  have h := shift0_pos (cov_self_nonneg u) (cov_self_nonneg v) (cov_det u v) eps_pos
  pointwise [scales]
  rw [a_at V hu, b_at V hu hv, tan_at V hu hv, bits_eps, ← EReal.coe_mul, ← EReal.coe_sub, ← EReal.coe_add,
    sqrt_real h.le, div_one_real (Real.sqrt_pos.2 h).ne']
  rfl

/-- The reciprocal square root of the second regularized eigenvalue. -/
theorem scale1_at : scales V (ix2 c 1) = (rsq1 (cov u u) (cov u v) (cov v v) eps : EReal) := by
  have h := shift1_pos (cov_self_nonneg u) (cov_self_nonneg v) (cov_det u v) eps_pos
  pointwise [scales]
  rw [d_at V hv, b_at V hu hv, tan_at V hu hv, bits_eps, ← EReal.coe_mul, ← EReal.coe_add, ← EReal.coe_add,
    sqrt_real h.le, div_one_real (Real.sqrt_pos.2 h).ne']
  rfl

/-- First component of the first eigenvector. -/
theorem q00_at : res_main_v65 V (ix3 c 0 0) = (cosine (tangent (cov u u) (cov u v) (cov v v)) : EReal) := by
  rw [← cos_at V hu hv]; pointwise [res_main_v65]

/-- First component of the second eigenvector. -/
theorem q01_at : res_main_v65 V (ix3 c 0 1) = (sine (tangent (cov u u) (cov u v) (cov v v)) : EReal) := by
  rw [q01_eq, sin_at V hu hv]

/-- Second component of the first eigenvector. -/
theorem q10_at : res_main_v65 V (ix3 c 1 0) = ((-sine (tangent (cov u u) (cov u v) (cov v v)) : ℝ) : EReal) := by
  rw [q10_eq, sin_at V hu hv, EReal.coe_neg]

/-- Second component of the second eigenvector. -/
theorem q11_at : res_main_v65 V (ix3 c 1 1) = (cosine (tangent (cov u u) (cov u v) (cov v v)) : EReal) := by
  rw [← cos_at V hu hv]; pointwise [res_main_v65]

/-- The upper left entry of the whitening matrix has the closed form. -/
theorem w00_at : whitening (res_main_v65 V) (scales V) (ix3 c 0 0) = (p00 u v : EReal) := by
  refine (whitening_at _ _ c 0 0).trans ?_
  rw [q00_at V hu hv, q01_at V hu hv, scale0_at V hu hv, scale1_at V hu hv]
  simp only [← EReal.coe_mul, ← EReal.coe_add]
  rw [inv_sqrt00 (cov_self_nonneg u) (cov_self_nonneg v) (cov_det u v) eps_pos]
  rfl

/-- The upper right entry of the whitening matrix has the closed form. -/
theorem w01_at : whitening (res_main_v65 V) (scales V) (ix3 c 0 1) = (p01 u v : EReal) := by
  refine (whitening_at _ _ c 0 1).trans ?_
  rw [q00_at V hu hv, q01_at V hu hv, q10_at V hu hv, q11_at V hu hv, scale0_at V hu hv, scale1_at V hu hv]
  simp only [← EReal.coe_mul, ← EReal.coe_add]
  rw [inv_sqrt01 (cov_self_nonneg u) (cov_self_nonneg v) (cov_det u v) eps_pos]
  rfl

/-- The lower left entry of the whitening matrix has the closed form. -/
theorem w10_at : whitening (res_main_v65 V) (scales V) (ix3 c 1 0) = (p01 u v : EReal) := by
  refine (whitening_at _ _ c 1 0).trans ?_
  rw [q00_at V hu hv, q01_at V hu hv, q10_at V hu hv, q11_at V hu hv, scale0_at V hu hv, scale1_at V hu hv]
  simp only [← EReal.coe_mul, ← EReal.coe_add]
  rw [p01, fac, ← inv_sqrt01 (cov_self_nonneg u) (cov_self_nonneg v) (cov_det u v) eps_pos]
  congr 1
  ring

/-- The lower right entry of the whitening matrix has the closed form. -/
theorem w11_at : whitening (res_main_v65 V) (scales V) (ix3 c 1 1) = (p11 u v : EReal) := by
  refine (whitening_at _ _ c 1 1).trans ?_
  rw [q10_at V hu hv, q11_at V hu hv, scale0_at V hu hv, scale1_at V hu hv]
  simp only [← EReal.coe_mul, ← EReal.coe_add]
  rw [inv_sqrt11 (cov_self_nonneg u) (cov_self_nonneg v) (cov_det u v) eps_pos]
  rfl

/-- The reference's result at an index: the row of weights applied to the whitened sample, and the shift. -/
theorem value_at (g : FVec Ideal S64x2x2 .f32) (e : FVec Ideal S64x2 .f32) (b : Fin 32) (h w : Fin 128) (p : Fin 2)
    {g0 g1 : ℝ} (h0 : g (ix3 c p 0) = (g0 : EReal)) (h1 : g (ix3 c p 1) = (g1 : EReal)) :
    result g (whitening (res_main_v65 V) (scales V)) (res_main_v12 V) e (ix5 b c h w p)
      = (whitened u v g0 g1 ⟨b.val * 16384 + h.val * 128 + w.val, by omega⟩ : EReal) + e (ix2 c p) := by
  refine (result_at _ _ _ _ b c h w p).trans ?_
  rw [centered_u V hu, centered_v V hv, w00_at V hu hv, w01_at V hu hv, w10_at V hu hv, w11_at V hu hv, h0, h1]
  simp only [← EReal.coe_mul, ← EReal.coe_add]
  rfl

end

section

variable {c : Fin 64}

/-- Where a part of a sample is infinite all its centered parts are, for either part. -/
theorem centered_inf (p : Fin 2) (hi : ∃ k, IsInf (res_main_v6 V (ix3 c p k))) (k : Fin 524288) :
    IsInf (res_main_v12 V (ix3 c p k)) := by
  pointwise [res_main_v12]
  rw [bits_n]
  exact ((IsInf.sum hi).div_real (by norm_num)).sub_right _

/-- Where a real part is infinite the variance of the real parts is. -/
theorem a_inf (hi : ∃ k, IsInf (res_main_v6 V (ix3 c 0 k))) : IsInf (res_main_v17 V (ix1 c)) := by
  have hc := centered_inf V 0 hi
  pointwise [res_main_v17, res_main_v15]
  rw [bits_nm1]
  refine IsInf.div_real (IsInf.sum ⟨(0 : Fin 524288), ?_⟩) (by norm_num)
  exact (hc 0).mul_left (hc 0).ne_zero

/-- Where an imaginary part is infinite the variance of the imaginary parts is. -/
theorem d_inf (hi : ∃ k, IsInf (res_main_v6 V (ix3 c 1 k))) : IsInf (res_main_v21 V (ix1 c)) := by
  have hc := centered_inf V 1 hi
  pointwise [res_main_v21, res_main_v15]
  rw [bits_nm1]
  refine IsInf.div_real (IsInf.sum ⟨(0 : Fin 524288), ?_⟩) (by norm_num)
  exact (hc 0).mul_left (hc 0).ne_zero

/-- The covariance is an infinity where a product of centered parts is. -/
theorem b_inf {k : Fin 524288} {s t : EReal} (hs : res_main_v12 V (ix3 c 0 k) = s) (ht : res_main_v12 V (ix3 c 1 k) = t)
    (h : IsInf (s * t)) :
    IsInf (res_main_v19 V (ix1 c)) := by
  pointwise [res_main_v19, res_main_v15]
  rw [bits_nm1]
  exact (IsInf.sum ⟨k, by simpa only [hs, ht] using h⟩).div_real (by norm_num)

/-- The covariance is zero where all products of centered parts are. -/
theorem b_zero {s t : Fin 524288 → EReal} (hs : ∀ k, res_main_v12 V (ix3 c 0 k) = s k)
    (ht : ∀ k, res_main_v12 V (ix3 c 1 k) = t k) (h : ∀ k, s k * t k = 0) :
    res_main_v19 V (ix1 c) = (0 : EReal) := by
  pointwise [res_main_v19, res_main_v15]
  simp only [hs, ht, h, bits_nm1, Finset.sum_const_zero]
  rw [← EReal.coe_zero, div_real _ (by norm_num), zero_div]

/-- The rotation by an infinite covariance has the tangent one. -/
theorem tan_one (h : IsInf (res_main_v19 V (ix1 c))) : res_main_v41 V (ix1 c) = (1 : EReal) := by
  have hτ : res_main_v25 V (ix1 c) = (0 : EReal) := by
    pointwise [res_main_v25]
    rw [bits_two]
    exact (h.mul_right (by rw [Ne, EReal.coe_eq_zero]; norm_num)).div_zero _
  have hr : res_main_v29 V (ix1 c) = (1 : EReal) := by
    pointwise [res_main_v29]
    rw [hτ, mul_zero, add_zero, ← EReal.coe_one, sqrt_real (by norm_num), Real.sqrt_one]
  pointwise [res_main_v41]
  rw [if_neg h.ne_zero, hτ, hr, if_pos le_rfl, zero_add, ← EReal.coe_one, div_real _ (by norm_num), div_one]

/-- The rotation by the covariance zero has the tangent zero. -/
theorem tan_zero (h : res_main_v19 V (ix1 c) = (0 : EReal)) : res_main_v41 V (ix1 c) = (0 : EReal) := by
  pointwise [res_main_v41]
  rw [if_pos h]
  exact Ideal.ofBits_zero_f32

/-- The rotation by the covariance zero has the sine zero. -/
theorem sin_zero (h : res_main_v19 V (ix1 c) = (0 : EReal)) : res_main_v48 V (ix1 c) = (0 : EReal) := by
  pointwise [res_main_v48]
  rw [tan_zero V h, zero_mul]

/-- The first scale is zero where the first eigenvalue is an infinity. -/
theorem scale0_zero {a t b : EReal} (ha : res_main_v17 V (ix1 c) = a) (ht : res_main_v41 V (ix1 c) = t)
    (hb : res_main_v19 V (ix1 c) = b) (h : IsInf (a - t * b)) : scales V (ix2 c 0) = (0 : EReal) := by
  pointwise [scales]
  rw [ha, ht, hb]
  exact (h.add_left _).sqrt.div_zero _

/-- The second scale is zero where the second eigenvalue is an infinity. -/
theorem scale1_zero {a t b : EReal} (ha : res_main_v21 V (ix1 c) = a) (ht : res_main_v41 V (ix1 c) = t)
    (hb : res_main_v19 V (ix1 c) = b) (h : IsInf (a + t * b)) : scales V (ix2 c 1) = (0 : EReal) := by
  pointwise [scales]
  rw [ha, ht, hb]
  exact (h.add_left _).sqrt.div_zero _

variable (g : FVec Ideal S64x2x2 .f32) (e : FVec Ideal S64x2 .f32) (b : Fin 32) (h w : Fin 128) (p : Fin 2)

/-- Where the covariance is infinite the result is the shift. -/
theorem shift_of_inf (hb : IsInf (res_main_v19 V (ix1 c))) :
    result g (whitening (res_main_v65 V) (scales V)) (res_main_v12 V) e (ix5 b c h w p) = e (ix2 c p) := by
  have s0 : scales V (ix2 c 0) = (0 : EReal) := scale0_zero V rfl (tan_one V hb) rfl (by rw [one_mul]; exact hb.sub_right _)
  have s1 : scales V (ix2 c 1) = (0 : EReal) := scale1_zero V rfl (tan_one V hb) rfl (by rw [one_mul]; exact hb.add_right _)
  refine (result_at _ _ _ _ b c h w p).trans ?_
  simp only [whitening_at, s0, s1, mul_zero, zero_mul, add_zero, zero_add]

/-- Where a real part is infinite the result is the shift. -/
theorem shift_of_u (hi : ∃ k, IsInf (res_main_v6 V (ix3 c 0 k))) :
    result g (whitening (res_main_v65 V) (scales V)) (res_main_v12 V) e (ix5 b c h w p) = e (ix2 c p) := by
  have hc := centered_inf V 0 hi
  by_cases h0 : ∃ k, res_main_v12 V (ix3 c 1 k) ≠ (0 : EReal)
  · obtain ⟨k, hk⟩ := h0
    exact shift_of_inf V g e b h w p (b_inf V rfl rfl ((hc k).mul_left hk))
  · have hz (k : Fin 524288) : res_main_v12 V (ix3 c 1 k) = (0 : EReal) := not_not.1 (not_exists.1 h0 k)
    have hb : res_main_v19 V (ix1 c) = (0 : EReal) := b_zero V (fun _ => rfl) hz fun k => mul_zero _
    have s0 : scales V (ix2 c 0) = (0 : EReal) := scale0_zero V rfl rfl rfl ((a_inf V hi).sub_left _)
    refine (result_at _ _ _ _ b c h w p).trans ?_
    simp only [whitening_at, hz, s0, q01_eq, sin_zero V hb, mul_zero, zero_mul, add_zero, zero_add]

/-- Where an imaginary part is infinite the result is the shift. -/
theorem shift_of_v (hi : ∃ k, IsInf (res_main_v6 V (ix3 c 1 k))) :
    result g (whitening (res_main_v65 V) (scales V)) (res_main_v12 V) e (ix5 b c h w p) = e (ix2 c p) := by
  have hc := centered_inf V 1 hi
  by_cases h0 : ∃ k, res_main_v12 V (ix3 c 0 k) ≠ (0 : EReal)
  · obtain ⟨k, hk⟩ := h0
    exact shift_of_inf V g e b h w p (b_inf V rfl rfl ((hc k).mul_right hk))
  · have hz (k : Fin 524288) : res_main_v12 V (ix3 c 0 k) = (0 : EReal) := not_not.1 (not_exists.1 h0 k)
    have hb : res_main_v19 V (ix1 c) = (0 : EReal) := b_zero V hz (fun _ => rfl) fun k => zero_mul _
    have s1 : scales V (ix2 c 1) = (0 : EReal) := scale1_zero V rfl rfl rfl ((d_inf V hi).add_left _)
    refine (result_at _ _ _ _ b c h w p).trans ?_
    simp only [whitening_at, hz, s1, q10_eq, sin_zero V hb, neg_zero, mul_zero, zero_mul, add_zero, zero_add]

end

end Cert.ReferenceIdeal.Whiten

end
-- ==== Proof.Equation.lean ====
module

public import proofs.«01_k».proof.Proof.Totals
public import proofs.«01_k».proof.Proof.Plain

@[expose] public section

noncomputable section

namespace Cert.KernelIdeal.Whiten

open Cert.KernelIdeal Cert.KernelIdeal.Gen Idealize.ShloMosaic Idealize.ShloMosaic.TcCoe Idealize.SL.Sem
open Cert.ReferenceIdeal.Whiten (result whitening scales x_at y_at shift_of_u shift_of_v)
open Idealize.ShloMosaic.StableHlo
open _root_.Whiten

/-- An index of the result is the tuple of its coordinates. -/
theorem tuple_of (j : S32x64x128x128x2.Idx) : ∃ (b : Fin 32) (c : Fin 64) (h w : Fin 128) (p : Fin 2), j = ix5 b c h w p :=
  ⟨j 0, j 1, j 2, j 3, j 4, funext fun a => by fin_cases a <;> rfl⟩

variable (V : Valuation Cert.ReferenceIdeal.τ Cert.ReferenceIdeal.sig (Elt Ideal))
  {x y : FVec Ideal S32x64x128x128 .f32} {g : FVec Ideal S64x2x2 .f32} {e : FVec Ideal S64x2 .f32} {s : FVec Ideal S64x128 .f32}
  {G : S64x2x2.Idx → ℝ}

/-- The reference's result at an index is the entry of the second kernel's array that holds it. -/
theorem reference_at (hg : ∀ i, g i = (G i : EReal))
    (hs : ∀ (k : Fin 64) (j : Fin 6), s (ix2 k ⟨j.val, by omega⟩) = packed g e (ix2 k j))
    (h0 : V (Proc.devRef .tc Cert.ReferenceIdeal.main_arg0) = x) (h1 : V (Proc.devRef .tc Cert.ReferenceIdeal.main_arg1) = y)
    (b : Fin 32) (c : Fin 64) (h w : Fin 128) (p : Fin 2) :
    result g (whitening (Cert.ReferenceIdeal.Value.res_main_v65 V) (scales V)) (Cert.ReferenceIdeal.Value.res_main_v12 V) e
        (ix5 b c h w p)
      = applied x y (partials x y) s (ix4 b c ⟨h.val * 2 + p.val, by omega⟩ w) := by
  have ex (k : Fin 524288) : Cert.ReferenceIdeal.Value.res_main_v6 V (ix3 c 0 k) = samples x c k :=
    (x_at V c k).trans (congrFun h0 _)
  have ey (k : Fin 524288) : Cert.ReferenceIdeal.Value.res_main_v6 V (ix3 c 1 k) = samples y c k :=
    (y_at V c k).trans (congrFun h1 _)
  by_cases hU : ∃ k, IsInf (samples x c k)
  · exact (shift_of_u V g e b h w p (hU.imp fun k hk => (ex k).symm ▸ hk)).trans
      (shift_at x y c (.inl hU) hs b h w p).symm
  by_cases hW : ∃ k, IsInf (samples y c k)
  · exact (shift_of_v V g e b h w p (hW.imp fun k hk => (ey k).symm ▸ hk)).trans
      (shift_at x y c (.inr hW) hs b h w p).symm
  obtain ⟨u, hu⟩ := Classical.skolem.1 fun k => real_of_not (not_exists.1 hU k)
  obtain ⟨v, hv⟩ := Classical.skolem.1 fun k => real_of_not (not_exists.1 hW k)
  exact (Cert.ReferenceIdeal.Whiten.value_at V (fun k => (ex k).trans (hu k)) (fun k => (ey k).trans (hv k))
    g e b h w p (hg _) (hg _)).trans (value_at x y c hu hv hs hg b h w p).symm

end Cert.KernelIdeal.Whiten

end
-- ==== Proof.Finite.lean ====
module

public import proofs.«01_k».proof.Pre_finite_gamma
public import proofs.«01_k».proof.Proof.Scalars
public import Idealize.ShloMosaic.Lib.Pointwise
public import Idealize.ShloMosaic.Lib.ReduceAll

@[expose] public section

noncomputable section

namespace Cert.Pre_finite_gamma.Whiten

open Idealize.ShloMosaic Cert.Pre_finite_gamma Cert.Pre_finite_gamma.Facts
open _root_.Whiten

/-- A scalar has one index. -/
instance : Subsingleton S_.Idx := ⟨fun _ _ => funext fun a => a.elim0⟩

/-- An array all of whose absolute values compare below infinity holds reals. -/
theorem reals_of_all {s : Shape} (x : FVec Ideal s .f32) (hb : S_.BroadcastsInDim s (![] : Fin 0 → Fin s.rank))
    {ds : List (Fin s.rank)} (hr : s.ReducesTo ds S_) (hn : 0 < S_.numel) (j : S_.Idx)
    (h : Host.reduce IntOp.andi (cmpf .olt (Host.absf x) (broadcastInDim s ![] hb (constant S_ .f32 0x7F800000#32)))
      (constantI S_ 1 1#1) hr hn j = 1#1) : ∃ X : s.Idx → ℝ, ∀ i, x i = (X i : EReal) := by
  refine Classical.skolem.1 fun i => real_of_abs_lt ?_
  have h' := Host.reduce_andi_all _ _ hr hn j h i
  rw [← bits_inf]
  revert h'
  pointwise
  exact fun h' => of_decide_eq_true ((BitVec.ofBool_eq_iff_eq (b' := true)).1 h')

variable [Facts]

/-- The precondition at true: the weights are reals. -/
theorem reals (x y : FVec Ideal S32x64x128x128 .f32) (g : FVec Ideal S64x2x2 .f32) (e : FVec Ideal S64x2 .f32)
    (j : S_.Idx) (h : fn x y g e j = 1#1) : ∃ G : S64x2x2.Idx → ℝ, ∀ i, g i = (G i : EReal) :=
  reals_of_all g _ _ _ j h

end Cert.Pre_finite_gamma.Whiten

end
-- ==== Proof.lean ====
/- The certificate's claims, assembled: the frames, the named constant, and the equal results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_gamma
public import proofs.«01_k».proof.Proof.KernelRun
public import proofs.«01_k».proof.Proof.Equation
public import proofs.«01_k».proof.Proof.Finite
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference, run from any memory, ends with its arguments unchanged and every counter at zero. -/
theorem reference_frame : Cert.quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- At weights that are real, the idealized kernel and the reference end with equal results. -/
theorem same_result : Cert.algebraic_KernelIdeal_ReferenceIdeal_pre_finite_gamma (hKernelIdeal := Cert.KernelIdeal.Gen.facts)
    (hReferenceIdeal := Cert.ReferenceIdeal.Gen.facts) (hPre_finite_gamma := Cert.Pre_finite_gamma.Gen.facts) := by
  intro m ρ m' ρ' hpre hagree
  refine ⟨fun c => Cert.KernelIdeal.Gen.W5 m ρ c (Proc.devRef .tc Cert.KernelIdeal.main_v6), Cert.KernelIdeal.Whiten.run m ρ,
    (θ_run Cert.ReferenceIdeal.defs _ _).mono (fun _ h c => ⟨(h c).1.trans ?_, (h c).2⟩) (Cert.ReferenceIdeal.Value.run m' ρ')⟩
  obtain ⟨G, hg⟩ := Cert.Pre_finite_gamma.Whiten.reals _ _ _ _ (fun a => a.elim0) (congrFun (hpre c) _)
  obtain ⟨e0, e1, e2, e3⟩ := hagree c
  refine funext fun j => ?_
  obtain ⟨b, k, h, w, p, rfl⟩ := Cert.KernelIdeal.Whiten.tuple_of j
  refine Eq.trans ?_ ((Cert.KernelIdeal.Whiten.reference_at (StableHlo.launchContents m' c) hg
    (Cert.KernelIdeal.Whiten.entry_padded m ρ c) e0 e1 b k h w p).trans (Cert.KernelIdeal.Whiten.result_at m ρ c b k h w p).symm)
  rw [← e2, ← e3]
  rfl

/-- Everything the certificate claims. -/
theorem claim : Cert.Claim :=
  ⟨Cert.Kernel.Gen.facts, Cert.KernelIdeal.Gen.facts, Cert.ReferenceIdeal.Gen.facts, Cert.Pre_finite_gamma.Gen.facts,
    fun m ρ _ => Cert.Kernel.Gen.frame m ρ, fun m ρ _ => Cert.KernelIdeal.Gen.frame m ρ,
    fun m ρ _ => Cert.KernelIdeal.Gen.frame m ρ, reference_frame,
    fun m ρ _ => reference_frame m ρ trivial,
    IdealRules.named_const.statement Cert.KernelIdeal.κ "inv_nm1" .f32 0x36000010#32 ((524287⁻¹ : ℝ) : EReal) rfl,
    same_result⟩

end Cert.Proof

end
